-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x3072x2304 : Shape := ⟨3, ![4, 3072, 2304]⟩
abbrev S4x3072x3584 : Shape := ⟨3, ![4, 3072, 3584]⟩
abbrev S96x128x2304 : Shape := ⟨3, ![96, 128, 2304]⟩
abbrev S_ : Shape := ⟨0, ![]⟩
abbrev S96x2304 : Shape := ⟨2, ![96, 2304]⟩
abbrev S12288x28x128 : Shape := ⟨3, ![12288, 28, 128]⟩
abbrev S12288x28 : Shape := ⟨2, ![12288, 28]⟩

class Facts : Prop where
  shapeCasts_S4x3072x2304_S96x128x2304 : S4x3072x2304.ShapeCasts S96x128x2304
  reducesTo_S96x128x2304_S96x2304_d1 : S96x128x2304.ReducesTo [1] S96x2304
  h_S_ : 0 < S_.numel
  shapeCasts_S4x3072x3584_S12288x28x128 : S4x3072x3584.ShapeCasts S12288x28x128
  reducesTo_S12288x28x128_S12288x28_d2 : S12288x28x128.ReducesTo [2] S12288x28
  bitsLt_bf16_f32 : FTy.bits .bf16 < FTy.bits .f32
  bcast_S_S96x2304 : S_.BroadcastsInDim S96x2304 (![] : Fin 0 → Fin S96x2304.rank)
  bcast_S_S12288x28 : S_.BroadcastsInDim S12288x28 (![] : Fin 0 → Fin S12288x28.rank)

variable [Facts]

def fn_part1 {F : FTy → Type} [FloatOps F] (main_v5 : FVec F S12288x28 .bf16) (main_v8 : FVec F S96x2304 .f32) (main_v13 : IVec S96x2304 1) (main_v15 : IVec S96x2304 1) (main_v16 : FVec F S96x2304 .f32) : IVec S96x2304 1 × IVec S12288x28 1 :=
  let main_v17 : IVec S96x2304 1 := cmpf .olt main_v8 main_v16
  let main_v18 : IVec S96x2304 1 := andi main_v15 main_v17
  let main_v19 : IVec S96x2304 1 := ori main_v13 main_v18
  let main_v20 : FVec F S12288x28 .f32 := (extf .f32 · bitsLt_bf16_f32) main_v5
  let main_cst_6 : FVec F S_ .f32 := constant S_ .f32 0x3B124925#32
  let main_v21 : FVec F S12288x28 .f32 := broadcastInDim S12288x28 ![] bcast_S_S12288x28 main_cst_6
  let main_v22 : FVec F S12288x28 .f32 := mulf main_v20 main_v21
  let main_cst_7 : FVec F S_ .f32 := constant S_ .f32 0x00000000#32
  let main_v23 : FVec F S12288x28 .f32 := broadcastInDim S12288x28 ![] bcast_S_S12288x28 main_cst_7
  let main_v24 : IVec S12288x28 1 := cmpf .oeq main_v22 main_v23
  let main_cst_8 : FVec F S_ .f32 := constant S_ .f32 0x7F800000#32
  let main_v25 : FVec F S12288x28 .f32 := broadcastInDim S12288x28 ![] bcast_S_S12288x28 main_cst_8
  let main_v26 : IVec S12288x28 1 := cmpf .oeq main_v22 main_v25
  let main_v27 : IVec S12288x28 1 := ori main_v24 main_v26
  let main_cst_9 : FVec F S_ .f32 := constant S_ .f32 0x00800000#32
  let main_v28 : FVec F S12288x28 .f32 := broadcastInDim S12288x28 ![] bcast_S_S12288x28 main_cst_9
  let main_v29 : IVec S12288x28 1 := cmpf .oge main_v22 main_v28
  let main_cst_10 : FVec F S_ .f32 := constant S_ .f32 0x7E800000#32
  let main_v30 : FVec F S12288x28 .f32 := broadcastInDim S12288x28 ![] bcast_S_S12288x28 main_cst_10
  let main_v31 : IVec S12288x28 1 := cmpf .olt main_v22 main_v30
  let main_v32 : IVec S12288x28 1 := andi main_v29 main_v31
  let main_v33 : IVec S12288x28 1 := ori main_v27 main_v32
  (main_v19, main_v33)

def fn {F : FTy → Type} [FloatOps F] (main_arg0 : FVec F S4x3072x2304 .bf16) (main_arg1 : FVec F S4x3072x3584 .bf16) : IVec S96x2304 1 × IVec S12288x28 1 :=
  let main_v0 : FVec F S4x3072x2304 .bf16 := Host.absf main_arg0
  let main_v1 : FVec F S96x128x2304 .bf16 := shapeCast S96x128x2304 main_v0 shapeCasts_S4x3072x2304_S96x128x2304
  let main_cst : FVec F S_ .bf16 := constant S_ .bf16 0xFF80#16
  let main_v2 : FVec F S96x2304 .bf16 := (fun x v => Host.reduce FloatOps.maximumf x v reducesTo_S96x128x2304_S96x2304_d1 h_S_) main_v1 main_cst
  let main_v3 : FVec F S4x3072x3584 .bf16 := Host.absf main_arg1
  let main_v4 : FVec F S12288x28x128 .bf16 := shapeCast S12288x28x128 main_v3 shapeCasts_S4x3072x3584_S12288x28x128
  let main_cst_0 : FVec F S_ .bf16 := constant S_ .bf16 0xFF80#16
  let main_v5 : FVec F S12288x28 .bf16 := (fun x v => Host.reduce FloatOps.maximumf x v reducesTo_S12288x28x128_S12288x28_d2 h_S_) main_v4 main_cst_0
  let main_v6 : FVec F S96x2304 .f32 := (extf .f32 · bitsLt_bf16_f32) main_v2
  let main_cst_1 : FVec F S_ .f32 := constant S_ .f32 0x3B124925#32
  let main_v7 : FVec F S96x2304 .f32 := broadcastInDim S96x2304 ![] bcast_S_S96x2304 main_cst_1
  let main_v8 : FVec F S96x2304 .f32 := mulf main_v6 main_v7
  let main_cst_2 : FVec F S_ .f32 := constant S_ .f32 0x00000000#32
  let main_v9 : FVec F S96x2304 .f32 := broadcastInDim S96x2304 ![] bcast_S_S96x2304 main_cst_2
  let main_v10 : IVec S96x2304 1 := cmpf .oeq main_v8 main_v9
  let main_cst_3 : FVec F S_ .f32 := constant S_ .f32 0x7F800000#32
  let main_v11 : FVec F S96x2304 .f32 := broadcastInDim S96x2304 ![] bcast_S_S96x2304 main_cst_3
  let main_v12 : IVec S96x2304 1 := cmpf .oeq main_v8 main_v11
  let main_v13 : IVec S96x2304 1 := ori main_v10 main_v12
  let main_cst_4 : FVec F S_ .f32 := constant S_ .f32 0x00800000#32
  let main_v14 : FVec F S96x2304 .f32 := broadcastInDim S96x2304 ![] bcast_S_S96x2304 main_cst_4
  let main_v15 : IVec S96x2304 1 := cmpf .oge main_v8 main_v14
  let main_cst_5 : FVec F S_ .f32 := constant S_ .f32 0x7E800000#32
  let main_v16 : FVec F S96x2304 .f32 := broadcastInDim S96x2304 ![] bcast_S_S96x2304 main_cst_5
  fn_part1 (F := F) main_v5 main_v8 main_v13 main_v15 main_v16
-- ==== Kernel.lean ====
abbrev S4x3072x2304 : Shape := ⟨3, ![4, 3072, 2304]⟩
abbrev S4x3072x3584 : Shape := ⟨3, ![4, 3072, 3584]⟩
abbrev S12288x2304 : Shape := ⟨2, ![12288, 2304]⟩
abbrev S12288x3584 : Shape := ⟨2, ![12288, 3584]⟩
abbrev S2304x3584 : Shape := ⟨2, ![2304, 3584]⟩
abbrev S24x4x2304 : Shape := ⟨3, ![24, 4, 2304]⟩
abbrev S12288x28 : Shape := ⟨2, ![12288, 28]⟩
abbrev S512x2304 : Shape := ⟨2, ![512, 2304]⟩
abbrev S512x3584 : Shape := ⟨2, ![512, 3584]⟩
abbrev S1x4x2304 : Shape := ⟨3, ![1, 4, 2304]⟩
abbrev S512x28 : Shape := ⟨2, ![512, 28]⟩
abbrev S128x2304 : Shape := ⟨2, ![128, 2304]⟩
abbrev S2304 : Shape := ⟨1, ![2304]⟩
abbrev S1x2304 : Shape := ⟨2, ![1, 2304]⟩
abbrev S1x1x2304 : Shape := ⟨3, ![1, 1, 2304]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S2304x512 : Shape := ⟨2, ![2304, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x3072x2304, .bf16⟩
  | .hbm, ⟨1, _⟩ => ⟨S4x3072x3584, .bf16⟩
  | .hbm, ⟨2, _⟩ => ⟨S12288x2304, .bf16⟩
  | .hbm, ⟨3, _⟩ => ⟨S12288x3584, .bf16⟩
  | .hbm, ⟨4, _⟩ => ⟨S2304x3584, .f32⟩
  | .hbm, ⟨5, _⟩ => ⟨S12288x2304, .fp8e4m3⟩
  | .hbm, ⟨6, _⟩ => ⟨S24x4x2304, .f32⟩
  | .hbm, ⟨7, _⟩ => ⟨S12288x3584, .fp8e4m3⟩
  | .hbm, ⟨8, _⟩ => ⟨S12288x28, .f32⟩
  | .local _ .vmem, ⟨0, _⟩ => ⟨S512x2304, .bf16⟩
  | .local _ .vmem, ⟨1, _⟩ => ⟨S512x2304, .bf16⟩
  | .local _ .vmem, ⟨2, _⟩ => ⟨S512x3584, .bf16⟩
  | .local _ .vmem, ⟨3, _⟩ => ⟨S512x3584, .bf16⟩
  | .local _ .vmem, ⟨4, _⟩ => ⟨S2304x3584, .f32⟩
  | .local _ .vmem, ⟨5, _⟩ => ⟨S512x2304, .fp8e4m3⟩
  | .local _ .vmem, ⟨6, _⟩ => ⟨S512x2304, .fp8e4m3⟩
  | .local _ .vmem, ⟨7, _⟩ => ⟨S1x4x2304, .f32⟩
  | .local _ .vmem, ⟨8, _⟩ => ⟨S1x4x2304, .f32⟩
  | .local _ .vmem, ⟨9, _⟩ => ⟨S512x3584, .fp8e4m3⟩
  | .local _ .vmem, ⟨10, _⟩ => ⟨S512x3584, .fp8e4m3⟩
  | .local _ .vmem, ⟨11, _⟩ => ⟨S512x28, .f32⟩
  | .local _ .vmem, ⟨12, _⟩ => ⟨S512x28, .f32⟩
  | .local _ .vmem, ⟨13, _⟩ => ⟨S512x2304, .bf16⟩
  | _, _ => ⟨S4x3072x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x3072x2304 : Shape := ⟨3, ![4, 3072, 2304]⟩
abbrev S4x3072x3584 : Shape := ⟨3, ![4, 3072, 3584]⟩
abbrev S2304x3584 : Shape := ⟨2, ![2304, 3584]⟩
abbrev S12288x2304 : Shape := ⟨2, ![12288, 2304]⟩
abbrev S24x4x2304 : Shape := ⟨3, ![24, 4, 2304]⟩
abbrev S12288x3584 : Shape := ⟨2, ![12288, 3584]⟩
abbrev S12288x28 : Shape := ⟨2, ![12288, 28]⟩
abbrev S96x128x2304 : Shape := ⟨3, ![96, 128, 2304]⟩
abbrev S12288x28x128 : Shape := ⟨3, ![12288, 28, 128]⟩
abbrev S96x2304 : Shape := ⟨2, ![96, 2304]⟩
abbrev S96x1x2304 : Shape := ⟨3, ![96, 1, 2304]⟩
abbrev S12288x28x1 : Shape := ⟨3, ![12288, 28, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x3072x2304, .bf16⟩
  | .hbm, ⟨1, _⟩ => ⟨S4x3072x3584, .bf16⟩
  | .hbm, ⟨2, _⟩ => ⟨S2304x3584, .f32⟩
  | .hbm, ⟨3, _⟩ => ⟨S12288x2304, .fp8e4m3⟩
  | .hbm, ⟨4, _⟩ => ⟨S24x4x2304, .f32⟩
  | .hbm, ⟨5, _⟩ => ⟨S12288x3584, .fp8e4m3⟩
  | .hbm, ⟨6, _⟩ => ⟨S12288x28, .f32⟩
  | .local _ .vmem, ⟨0, _⟩ => ⟨S4x3072x2304, .bf16⟩
  | .local _ .vmem, ⟨1, _⟩ => ⟨S4x3072x3584, .bf16⟩
  | .local _ .vmem, ⟨2, _⟩ => ⟨S2304x3584, .f32⟩
  | .local _ .vmem, ⟨3, _⟩ => ⟨S12288x2304, .fp8e4m3⟩
  | .local _ .vmem, ⟨4, _⟩ => ⟨S24x4x2304, .f32⟩
  | .local _ .vmem, ⟨5, _⟩ => ⟨S12288x3584, .fp8e4m3⟩
  | .local _ .vmem, ⟨6, _⟩ => ⟨S12288x28, .f32⟩
  | _, _ => ⟨S4x3072x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x4x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RefRun.lean ====
/-
  The reference's run. It has ONE grid point and every window's block is its whole array, so each result array is one function
  `G_w` of the two argument arrays: `run` says that after the run the five result arrays hold `G2 … G6` of the arguments and the
  arguments are kept.
-/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t)) := by
  show (cfg0.win 6).cut (grid0.coords t) ((dats m 0 c).after 6 t) = _
  rw [after0_6]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      post6 m r h c,
      kept_main_arg0 m r h c,
      kept_main_arg1 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x3072x2304.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 3072 + 1 * (j 1).val = (j 1).val; omega
  | ⟨2, _⟩ => show win0_0.index t (2 : Fin 3) * 2304 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4x3072x3584.Idx) : ((cfg0.win 1).blk t).view.emb j = j := by
  obtain ⟨e0, e1, e2⟩ := idx_zero1 t
  funext a; apply Fin.ext
  match a with
  | ⟨0, _⟩ => show win0_1.index t (0 : Fin 3) * 4 + 1 * (j 0).val = (j 0).val; omega
  | ⟨1, _⟩ => show win0_1.index t (1 : Fin 3) * 3072 + 1 * (j 1).val = (j 1).val; omega
  | ⟨2, _⟩ => show win0_1.index t (2 : Fin 3) * 3584 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2304x3584.Idx) : ((cfg0.win 2).blk t).view.emb j = j := by
  obtain ⟨e0, e1⟩ := idx_zero2 t
  funext a; apply Fin.ext
  match a with
  | ⟨0, _⟩ => show win0_2.index t (0 : Fin 2) * 2304 + 1 * (j 0).val = (j 0).val; omega
  | ⟨1, _⟩ => show win0_2.index t (1 : Fin 2) * 3584 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S12288x2304.Idx) : ((cfg0.win 3).blk t).view.emb j = j := by
  obtain ⟨e0, e1⟩ := idx_zero3 t
  funext a; apply Fin.ext
  match a with
  | ⟨0, _⟩ => show win0_3.index t (0 : Fin 2) * 12288 + 1 * (j 0).val = (j 0).val; omega
  | ⟨1, _⟩ => show win0_3.index t (1 : Fin 2) * 2304 + 1 * (j 1).val = (j 1).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S24x4x2304.Idx) : ((cfg0.win 4).blk t).view.emb j = j := by
  obtain ⟨e0, e1, e2⟩ := idx_zero4 t
  funext a; apply Fin.ext
  match a with
  | ⟨0, _⟩ => show win0_4.index t (0 : Fin 3) * 24 + 1 * (j 0).val = (j 0).val; omega
  | ⟨1, _⟩ => show win0_4.index t (1 : Fin 3) * 4 + 1 * (j 1).val = (j 1).val; omega
  | ⟨2, _⟩ => show win0_4.index t (2 : Fin 3) * 2304 + 1 * (j 2).val = (j 2).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S12288x3584.Idx) : ((cfg0.win 5).blk t).view.emb j = j := by
  obtain ⟨e0, e1⟩ := idx_zero5 t
  funext a; apply Fin.ext
  match a with
  | ⟨0, _⟩ => show win0_5.index t (0 : Fin 2) * 12288 + 1 * (j 0).val = (j 0).val; omega
  | ⟨1, _⟩ => show win0_5.index t (1 : Fin 2) * 3584 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S12288x28.Idx) : ((cfg0.win 6).blk t).view.emb j = j := by
  obtain ⟨e0, e1⟩ := idx_zero6 t
  funext a; apply Fin.ext
  match a with
  | ⟨0, _⟩ => show win0_6.index t (0 : Fin 2) * 12288 + 1 * (j 0).val = (j 0).val; omega
  | ⟨1, _⟩ => show win0_6.index t (1 : Fin 2) * 28 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S4x3072x2304 .bf16) (a1 : Vec F S4x3072x3584 .bf16) : Vec F S2304x3584 .f32 :=
  k0_pay11 (k0_pay14 a0 a1) (k0_pay15 a0 a1) (k0_pay16 a0 a1) (k0_pay17 a0 a1) (Scalar.ofBits .f32 0x00000000#32)

/-- The one store through the whole rectangle leaves its payload. -/
theorem out2_eq (a0 : Vec F S4x3072x2304 .bf16) (a1 : Vec F S4x3072x3584 .bf16) : out0_2 (F := F) a0 a1 = G2 a0 a1 := by
  unfold out0_2
  rw [View.canon_unit_zero hz2]

/-- Cutting the point's block out of `X` and reading `X` through the block's view give the same. -/
theorem cut2_eq (t : Fin cfg0.N) (X : Vec F S2304x3584 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S2304x3584.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S4x3072x2304 .bf16) (a1 : Vec F S4x3072x3584 .bf16) : Vec F S12288x2304 .fp8e4m3 :=
  k0_pay12 (k0_pay16 a0 a1)

/-- The one store through the whole rectangle leaves its payload. -/
theorem out3_eq (a0 : Vec F S4x3072x2304 .bf16) (a1 : Vec F S4x3072x3584 .bf16) : out0_3 (F := F) a0 a1 = G3 a0 a1 := by
  unfold out0_3
  rw [View.canon_unit_zero hz3]

/-- Cutting the point's block out of `X` and reading `X` through the block's view give the same. -/
theorem cut3_eq (t : Fin cfg0.N) (X : Vec F S12288x2304 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S12288x2304.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S4x3072x2304 .bf16) (a1 : Vec F S4x3072x3584 .bf16) : Vec F S24x4x2304 .f32 :=
  k0_pay13 (k0_pay15 a0 a1)

/-- The one store through the whole rectangle leaves its payload. -/
theorem out4_eq (a0 : Vec F S4x3072x2304 .bf16) (a1 : Vec F S4x3072x3584 .bf16) : out0_4 (F := F) a0 a1 = G4 a0 a1 := by
  unfold out0_4
  rw [View.canon_unit_zero hz4]

/-- Cutting the point's block out of `X` and reading `X` through the block's view give the same. -/
theorem cut4_eq (t : Fin cfg0.N) (X : Vec F S24x4x2304 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S24x4x2304.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ### Output window 5: the array after the run -/

/-- What the window's array ends holding: `out0_5` applied to the argument arrays in place of the input blocks (a value that the
    frame states apart, `kK_payN a…`, keeps its loads inside its own definition). -/
abbrev G5 (a0 : Vec F S4x3072x2304 .bf16) (a1 : Vec F S4x3072x3584 .bf16) : Vec F S12288x3584 .fp8e4m3 :=
  k0_pay1 (k0_pay10 (k0_pay14 a0 a1) (k0_pay17 a0 a1) (Scalar.ofBits .f32 0x00000000#32))

/-- The one store through the whole rectangle leaves its payload. -/
theorem out5_eq (a0 : Vec F S4x3072x2304 .bf16) (a1 : Vec F S4x3072x3584 .bf16) : out0_5 (F := F) a0 a1 = G5 a0 a1 := by
  unfold out0_5
  rw [View.canon_unit_zero hz5]

/-- Cutting the point's block out of `X` and reading `X` through the block's view give the same. -/
theorem cut5_eq (t : Fin cfg0.N) (X : Vec F S12288x3584 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1)) := by
  show (cfg0.win 5).cut (grid0.coords t) ((dats m 0 c).after 5 t) = _
  rw [after0_5, out5_eq, iblk0_eq, iblk1_eq]
  exact cut5_eq t _

/-- Every index of the array is in the point's block. -/
theorem covered5 (i : S12288x3584.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) :=
  ((dats m 0 c).arrAt_eq_of_cover 5 (G5 (V m c main_arg0) (V m c main_arg1)) (fun t _ => flushed5_eq m c t) covered5).trans (by rw [V_main_arg0, V_main_arg1])

/-! ### Output window 6: the array after the run -/

/-- What the window's array ends holding: `out0_6` applied to the argument arrays in place of the input blocks (a value that the
    frame states apart, `kK_payN a…`, keeps its loads inside its own definition). -/
abbrev G6 (a0 : Vec F S4x3072x2304 .bf16) (a1 : Vec F S4x3072x3584 .bf16) : Vec F S12288x28 .f32 :=
  k0_pay9 (k0_pay17 a0 a1) (Scalar.ofBits .f32 0x00000000#32)

/-- The one store through the whole rectangle leaves its payload. -/
theorem out6_eq (a0 : Vec F S4x3072x2304 .bf16) (a1 : Vec F S4x3072x3584 .bf16) : out0_6 (F := F) a0 a1 = G6 a0 a1 := by
  unfold out0_6
  rw [View.canon_unit_zero hz6]

/-- Cutting the point's block out of `X` and reading `X` through the block's view give the same. -/
theorem cut6_eq (t : Fin cfg0.N) (X : Vec F S12288x28 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1)) := by
  show (cfg0.win 6).cut (grid0.coords t) ((dats m 0 c).after 6 t) = _
  rw [after0_6, out6_eq, iblk0_eq, iblk1_eq]
  exact cut6_eq t _

/-- Every index of the array is in the point's block. -/
theorem covered6 (i : S12288x28.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) :=
  ((dats m 0 c).arrAt_eq_of_cover 6 (G6 (V m c main_arg0) (V m c main_arg1)) (fun t _ => flushed6_eq m c t) covered6).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_v0_3) = G5 (m ((c : Thread nD τ).loc main_arg0)) (m ((c : Thread nD τ).loc main_arg1))
      ∧ r.2.mem ((c : Thread nD τ).loc main_v0_4) = G6 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      (post6 m r h c).trans (final6 m c),
      kept_main_arg0 m r h c,
      kept_main_arg1 m r h c⟩)
    (run_main m ρ)

end Cert.RefRun

end
-- ==== Proof.Blocks.lean ====
/-
  What one grid point computes, as functions of vectors: the scales of a vector of scaled maxima by bisection over the exponent
  field, the codes and the dequantised product of one group of `x` (128 rows) and of one group of `dy` (128 columns), and with them
  the pieces the body stores into each window. `piecesA_w` / `piecesB_w`: the pieces of the run are these.
-/
module

public import proofs.«01_k».proof.Proof.Gen.KernelIdeal.Frame
public import Idealize.ShloMosaic.Lib.Pipeline.Value

@[expose] public section

set_option maxRecDepth 16384

noncomputable section

namespace Cert.Blocks

open Cert.KernelIdeal Cert.KernelIdeal.Gen Idealize.ShloMosaic Idealize.ShloMosaic.TcCoe Idealize.SL.Sem

variable {F : FTy → Type} [FloatOps F] {S : Shape}

/-! ## The scales of a vector of scaled maxima -/

/-- One step of the bisection. -/
def stepV (t : FVec F S .f32) (k : BitVec 32) (eb : IVec S 32) : IVec S 32 :=
  select (cmpf .oge t (bitcastToFloat .f32 (shli (addi eb (broadcast S k)) (broadcast S 23#32)))) (addi eb (broadcast S k)) eb

/-- The eight steps. -/
def bisectV (t : FVec F S .f32) : IVec S 32 :=
  stepV t 1#32 (stepV t 2#32 (stepV t 4#32 (stepV t 8#32 (stepV t 16#32 (stepV t 32#32 (stepV t 64#32
    (stepV t 128#32 (broadcast S 0#32))))))))

/-- The field the scale is built from. -/
def fieldOf (eb : IVec S 32) : IVec S 32 :=
  select (ori (cmpi .eq eb (broadcast S 0#32)) (cmpi .eq eb (broadcast S 255#32))) (broadcast S 126#32) eb

def fieldV (t : FVec F S .f32) : IVec S 32 := fieldOf (bisectV t)

/-- The scale … -/
def scaleV (t : FVec F S .f32) : FVec F S .f32 :=
  bitcastToFloat .f32 (shli (addi (fieldV t) (broadcast S 1#32)) (broadcast S 23#32))
/-- … and the inverse scale. -/
def invV (t : FVec F S .f32) : FVec F S .f32 :=
  bitcastToFloat .f32 (shli (subi (broadcast S 253#32) (fieldV t)) (broadcast S 23#32))

/-- Clip to ±448 and round to the code format. -/
def codes (q : FVec F S .bf16) : FVec F S .fp8e4m3 :=
  truncf .fp8e4m3 (minimumf (broadcast S (Scalar.truncf .bf16 bitsLt_bf16_f32 (Scalar.ofBits .f32 0x43E00000#32)))
    (maximumf (broadcast S (Scalar.truncf .bf16 bitsLt_bf16_f32 (Scalar.ofBits .f32 0xC3E00000#32))) q)) bitsLt_fp8e4m3_bf16

/-! ## One group of `x`: 128 rows, one scale per column -/

/-- The scaled maxima of a group's columns. -/
def tX (v : Vec F S128x2304 .bf16) : FVec F S1x2304 .f32 :=
  mulf (extf .f32 (shapeCast S1x2304 (multiReduction .maximumf [0] S2304 (absf (shapeCast S128x2304 v shapeCasts_S128x2304_S128x2304)) 0xFF80#16 reduces_S128x2304_S2304 (.inr rfl) rfl) shapeCasts_S2304_S1x2304) bitsLt_bf16_f32)
    (broadcast S1x2304 (Scalar.ofBits .f32 0x3B124925#32))

/-- The group's codes … -/
def codesX (v : Vec F S128x2304 .bf16) : FVec F S128x2304 .fp8e4m3 :=
  codes (mulf (shapeCast S128x2304 v shapeCasts_S128x2304_S128x2304) (broadcastTo S128x2304 (truncf .bf16 (invV (tX v)) bitsLt_bf16_f32) broadcasts_S1x2304_S128x2304))
/-- … its scales … -/
def scalesX (v : Vec F S128x2304 .bf16) : FVec F S1x1x2304 .f32 :=
  shapeCast S1x1x2304 (scaleV (tX v)) shapeCasts_S1x2304_S1x1x2304
/-- … and its dequantised values. -/
def deqX (v : Vec F S128x2304 .bf16) : FVec F S128x2304 .bf16 :=
  shapeCast S128x2304 (mulf (extf .bf16 (codesX v) bitsLt_fp8e4m3_bf16) (broadcastTo S128x2304 (truncf .bf16 (scaleV (tX v)) bitsLt_bf16_f32) broadcasts_S1x2304_S128x2304))
    shapeCasts_S128x2304_S128x2304

/-! ## One group of `dy`: 128 columns, one scale per row -/

/-- The scaled maxima of a group's rows. -/
def tD (v : Vec F S512x128 .bf16) : FVec F S512x1 .f32 :=
  mulf (extf .f32 (shapeCast S512x1 (multiReduction .maximumf [1] S512 (absf (shapeCast S512x128 v shapeCasts_S512x128_S512x128)) 0xFF80#16 reduces_S512x128_S512 (.inr rfl) rfl) shapeCasts_S512_S512x1) bitsLt_bf16_f32)
    (broadcast S512x1 (Scalar.ofBits .f32 0x3B124925#32))

/-- The group's codes … -/
def codesD (v : Vec F S512x128 .bf16) : FVec F S512x128 .fp8e4m3 :=
  codes (mulf (shapeCast S512x128 v shapeCasts_S512x128_S512x128) (broadcastTo S512x128 (truncf .bf16 (invV (tD v)) bitsLt_bf16_f32) broadcasts_S512x1_S512x128))
/-- … its scales … -/
def scalesD (v : Vec F S512x128 .bf16) : FVec F S512x1 .f32 := scaleV (tD v)
/-- … and its dequantised values. -/
def deqD (v : Vec F S512x128 .bf16) : FVec F S512x128 .bf16 :=
  mulf (extf .bf16 (codesD v) bitsLt_fp8e4m3_bf16) (broadcastTo S512x128 (truncf .bf16 (scaleV (tD v)) bitsLt_bf16_f32) broadcasts_S512x1_S512x128)

/-! ## The pieces -/

/-- The group of rows `n` of the `x` block, and where its codes go. -/
abbrev rX (n : Nat) (h : n + 1 ≤ 4) : Rect S512x2304 :=
  Rect.unit ![128 * n, 0] ![128, 2304] (fun a => by fin_cases a <;> simp <;> omega)
abbrev rS (n : Nat) (h : n + 1 ≤ 4) : Rect S1x4x2304 :=
  Rect.unit ![0, n, 0] ![1, 1, 2304] (fun a => by fin_cases a <;> simp <;> omega)
/-- The group of columns `n` of the `dy` block, and where its codes go. -/
abbrev rD (n : Nat) (h : n + 1 ≤ 28) : Rect S512x3584 :=
  Rect.unit ![0, 128 * n] ![512, 128] (fun a => by fin_cases a <;> simp <;> omega)
abbrev rT (n : Nat) (h : n + 1 ≤ 28) : Rect S512x28 :=
  Rect.unit ![0, n] ![512, 1] (fun a => by fin_cases a <;> simp <;> omega)

/-- The codes of `x`, last group first; likewise below. -/
def pcs3 (X : Vec F S512x2304 .bf16) : (n : Nat) → n ≤ 4 → List (View.Piece (Elt F) S512x2304 .fp8e4m3)
  | 0, _ => []
  | n + 1, h => ⟨rX n h, codesX (View.ld X (rX n h))⟩ :: pcs3 X n (Nat.le_of_succ_le h)
/-- The dequantised `x` the body keeps in its scratch. -/
def pcs8 (X : Vec F S512x2304 .bf16) : (n : Nat) → n ≤ 4 → List (View.Piece (Elt F) S512x2304 .bf16)
  | 0, _ => []
  | n + 1, h => ⟨rX n h, deqX (View.ld X (rX n h))⟩ :: pcs8 X n (Nat.le_of_succ_le h)
/-- The scales of `x`. -/
def pcs4 (X : Vec F S512x2304 .bf16) : (n : Nat) → n ≤ 4 → List (View.Piece (Elt F) S1x4x2304 .f32)
  | 0, _ => []
  | n + 1, h => ⟨rS n h, scalesX (View.ld X (rX n h))⟩ :: pcs4 X n (Nat.le_of_succ_le h)
/-- The codes of `dy`. -/
def pcs5 (D : Vec F S512x3584 .bf16) : (n : Nat) → n ≤ 28 → List (View.Piece (Elt F) S512x3584 .fp8e4m3)
  | 0, _ => []
  | n + 1, h => ⟨rD n h, codesD (View.ld D (rD n h))⟩ :: pcs5 D n (Nat.le_of_succ_le h)
/-- The scales of `dy`. -/
def pcs6 (D : Vec F S512x3584 .bf16) : (n : Nat) → n ≤ 28 → List (View.Piece (Elt F) S512x28 .f32)
  | 0, _ => []
  | n + 1, h => ⟨rT n h, scalesD (View.ld D (rD n h))⟩ :: pcs6 D n (Nat.le_of_succ_le h)

/-! ## The accumulator -/

/-- The tile of columns `n` of the accumulator. -/
abbrev rW (n : Nat) (h : n + 1 ≤ 7) : Rect S2304x3584 :=
  Rect.unit ![0, 512 * n] ![2304, 512] (fun a => by fin_cases a <;> simp <;> omega)

/-- The dequantised `x` block as the body reads it back from its scratch. -/
def xw (arg8 : Memref sig .tc .vmem S512x2304 .bf16) (X : Vec F S512x2304 .bf16) : Vec F S512x2304 .bf16 :=
  arg8.view.readCov (pcs8 X 4 (Nat.le_refl _)) (Rect.unit (s := S512x2304) ![0, 0] ![512, 2304] inb_S512x2304_S512x2304_0_0).toLoadRect

/-- The dequantised `dy` of the four groups of tile `n`, side by side. -/
def dyw (D : Vec F S512x3584 .bf16) (n : Nat) (h : n + 1 ≤ 7) : FVec F S512x512 .bf16 :=
  concatenate S512x512 1 [⟨S512x128, deqD (View.ld D (rD (4 * n + 0) (by omega)))⟩, ⟨S512x128, deqD (View.ld D (rD (4 * n + 1) (by omega)))⟩,
    ⟨S512x128, deqD (View.ld D (rD (4 * n + 2) (by omega)))⟩, ⟨S512x128, deqD (View.ld D (rD (4 * n + 3) (by omega)))⟩]
    concatenates_S512x128_S512x128_S512x128_S512x128_S512x512_d1

/-- What the body adds to tile `n` of the accumulator, on top of the tile `o` it read. -/
def accTile (arg8 : Memref sig .tc .vmem S512x2304 .bf16) (X : Vec F S512x2304 .bf16) (D : Vec F S512x3584 .bf16) (n : Nat) (h : n + 1 ≤ 7)
    (o : Vec F S2304x512 .f32) : FVec F S2304x512 .f32 :=
  addf (shapeCast S2304x512 o shapeCasts_S2304x512_S2304x512)
    (matmul dot_S512x2304_S512x512_S2304x512_0_0_1_1_n_n none (xw arg8 X) (dyw D n h) (constant S2304x512 .f32 0x00000000#32))

/-- The tiles of the accumulator at a point after the first, over the accumulator `O` found there. -/
def pcs2B (arg8 : Memref sig .tc .vmem S512x2304 .bf16) (X : Vec F S512x2304 .bf16) (D : Vec F S512x3584 .bf16) (O : Vec F S2304x3584 .f32) :
    (n : Nat) → n ≤ 7 → List (View.Piece (Elt F) S2304x3584 .f32)
  | 0, _ => []
  | n + 1, h => ⟨rW n h, accTile arg8 X D n h (View.ld O (rW n h))⟩ :: pcs2B arg8 X D O n (Nat.le_of_succ_le h)

/-- The tiles at the first point, over the zeros stored there. -/
def pcs2A (arg3 : Memref sig .tc .vmem S2304x3584 .f32) (arg8 : Memref sig .tc .vmem S512x2304 .bf16) (X : Vec F S512x2304 .bf16)
    (D : Vec F S512x3584 .bf16) : (n : Nat) → n ≤ 7 → List (View.Piece (Elt F) S2304x3584 .f32)
  | 0, _ => [⟨Rect.unit ![0, 0] ![2304, 3584] inb_S2304x3584_S2304x3584_0_0, broadcast S2304x3584 (Scalar.ofBits .f32 0x00000000#32)⟩]
  | n + 1, h => ⟨rW n h, accTile arg8 X D n h (arg3.view.readCov (pcs2A arg3 arg8 X D n (Nat.le_of_succ_le h)) (rW n h).toLoadRect)⟩
      :: pcs2A arg3 arg8 X D n (Nat.le_of_succ_le h)

/-! ## The run's pieces are these -/

variable (c : Dev nD) (i : grid0.Coords) (arg1 : Memref sig .tc .vmem S512x2304 .bf16) (harg1 : arg1.IsWhole) (arg2 : Memref sig .tc .vmem S512x3584 .bf16) (harg2 : arg2.IsWhole) (arg3 : Memref sig .tc .vmem S2304x3584 .f32) (harg3 : arg3.IsWhole) (arg4 : Memref sig .tc .vmem S512x2304 .fp8e4m3) (harg4 : arg4.IsWhole) (arg5 : Memref sig .tc .vmem S1x4x2304 .f32) (harg5 : arg5.IsWhole) (arg6 : Memref sig .tc .vmem S512x3584 .fp8e4m3) (harg6 : arg6.IsWhole) (arg7 : Memref sig .tc .vmem S512x28 .f32) (harg7 : arg7.IsWhole) (arg8 : Memref sig .tc .vmem S512x2304 .bf16) (harg8 : arg8.IsWhole)
variable (hA : cond0_0 i) (hB : ¬cond0_0 i) (x0 : Vec F S512x2304 .bf16) (x1 : Vec F S512x3584 .bf16) (xo2 : Vec F S2304x3584 .f32)

theorem piecesA_2 : (kernelRun0_A c i arg1 harg1 arg2 harg2 arg3 harg3 arg4 harg4 arg5 harg5 arg6 harg6 arg7 harg7 arg8 harg8 hA x0 x1).1
    = pcs2A arg3 arg8 (arg1.view.read (Elt F) (harg1.unread x0)) (arg2.view.read (Elt F) (harg2.unread x1)) 7 (Nat.le_refl _) := by sl_kernel_rfl

theorem piecesA_3 : (kernelRun0_A c i arg1 harg1 arg2 harg2 arg3 harg3 arg4 harg4 arg5 harg5 arg6 harg6 arg7 harg7 arg8 harg8 hA x0 x1).2.1
    = pcs3 (arg1.view.read (Elt F) (harg1.unread x0)) 4 (Nat.le_refl _) := by sl_kernel_rfl

theorem piecesA_4 : (kernelRun0_A c i arg1 harg1 arg2 harg2 arg3 harg3 arg4 harg4 arg5 harg5 arg6 harg6 arg7 harg7 arg8 harg8 hA x0 x1).2.2.1
    = pcs4 (arg1.view.read (Elt F) (harg1.unread x0)) 4 (Nat.le_refl _) := by sl_kernel_rfl

theorem piecesA_5 : (kernelRun0_A c i arg1 harg1 arg2 harg2 arg3 harg3 arg4 harg4 arg5 harg5 arg6 harg6 arg7 harg7 arg8 harg8 hA x0 x1).2.2.2.1
    = pcs5 (arg2.view.read (Elt F) (harg2.unread x1)) 28 (Nat.le_refl _) := by sl_kernel_rfl

theorem piecesA_6 : (kernelRun0_A c i arg1 harg1 arg2 harg2 arg3 harg3 arg4 harg4 arg5 harg5 arg6 harg6 arg7 harg7 arg8 harg8 hA x0 x1).2.2.2.2.1
    = pcs6 (arg2.view.read (Elt F) (harg2.unread x1)) 28 (Nat.le_refl _) := by sl_kernel_rfl

theorem piecesB_2 : (kernelRun0_B c i arg1 harg1 arg2 harg2 arg3 harg3 arg4 harg4 arg5 harg5 arg6 harg6 arg7 harg7 arg8 harg8 hB x0 x1 xo2).1
    = pcs2B arg8 (arg1.view.read (Elt F) (harg1.unread x0)) (arg2.view.read (Elt F) (harg2.unread x1)) (arg3.view.read (Elt F) (harg3.unread xo2)) 7 (Nat.le_refl _) := by sl_kernel_rfl

theorem piecesB_3 : (kernelRun0_B c i arg1 harg1 arg2 harg2 arg3 harg3 arg4 harg4 arg5 harg5 arg6 harg6 arg7 harg7 arg8 harg8 hB x0 x1 xo2).2.1
    = pcs3 (arg1.view.read (Elt F) (harg1.unread x0)) 4 (Nat.le_refl _) := by sl_kernel_rfl

theorem piecesB_4 : (kernelRun0_B c i arg1 harg1 arg2 harg2 arg3 harg3 arg4 harg4 arg5 harg5 arg6 harg6 arg7 harg7 arg8 harg8 hB x0 x1 xo2).2.2.1
    = pcs4 (arg1.view.read (Elt F) (harg1.unread x0)) 4 (Nat.le_refl _) := by sl_kernel_rfl

theorem piecesB_5 : (kernelRun0_B c i arg1 harg1 arg2 harg2 arg3 harg3 arg4 harg4 arg5 harg5 arg6 harg6 arg7 harg7 arg8 harg8 hB x0 x1 xo2).2.2.2.1
    = pcs5 (arg2.view.read (Elt F) (harg2.unread x1)) 28 (Nat.le_refl _) := by sl_kernel_rfl

theorem piecesB_6 : (kernelRun0_B c i arg1 harg1 arg2 harg2 arg3 harg3 arg4 harg4 arg5 harg5 arg6 harg6 arg7 harg7 arg8 harg8 hB x0 x1 xo2).2.2.2.2.1
    = pcs6 (arg2.view.read (Elt F) (harg2.unread x1)) 28 (Nat.le_refl _) := by sl_kernel_rfl

end Cert.Blocks

end
-- ==== Proof.Scale.lean ====
/-
  The power-of-two scale of one group, as a function of ONE scaled maximum `t ≥ 0`, at the extended reals. The kernel finds the
  exponent field of `t` by bisection over the eight bits of the field and builds `scale` and `1 / scale` from it as bit patterns; the
  reference takes `2 ^ e` and `2 ^ (-e)` with `e = ⌊log t / log 2⌋ + 1` (and `e = 0` for a `t` that is zero or infinite). `both_eq`:
  both are the same for every `t` that is zero, infinite, or at least `2 ^ (-126)` and below `2 ^ 126`.
-/
module

public import Idealize.ShloMosaic.PureOps.Ideal
public import Idealize.ShloMosaic.PureOps.Ideal.Laws
public import Idealize.ShloMosaic.Lib.IdealHost

@[expose] public section

noncomputable section

namespace Cert.Scale

open Idealize.ShloMosaic

/-! ## The kernel's side -/

/-- The f32 number whose bit pattern is the word `c` shifted into the exponent field. -/
def fieldF (c : BitVec 32) : EReal := Ideal.ofBits .f32 (IntOp.shli .vector c 23#32)

/-- One step of the bisection: set bit `k` of `c` if the number of the new field does not exceed `t`. -/
def step (t : EReal) (k c : BitVec 32) : BitVec 32 :=
  Scalar.select (Ideal.cmp .oge t (fieldF (IntOp.addi c k))) (IntOp.addi c k) c

/-- The eight steps, from bit 7 down to bit 0. -/
def bisect (t : EReal) : BitVec 32 :=
  step t 1#32 (step t 2#32 (step t 4#32 (step t 8#32 (step t 16#32 (step t 32#32 (step t 64#32 (step t 128#32 0#32)))))))

/-- The field the scale is built from: 126 (scale one) in place of a field of all zeros or all ones. -/
def field (t : EReal) : BitVec 32 :=
  Scalar.select (IntOp.ori (IntOp.cmpi .eq (bisect t) 0#32) (IntOp.cmpi .eq (bisect t) 255#32)) 126#32 (bisect t)

/-- The kernel's scale … -/
def scaleK (t : EReal) : EReal := fieldF (IntOp.addi (field t) 1#32)
/-- … and its inverse scale. -/
def invK (t : EReal) : EReal := fieldF (IntOp.subi 253#32 (field t))

/-! ## The reference's side -/

/-- The reference's exponent. -/
def expo (t : EReal) : EReal :=
  Scalar.select (IntOp.andi (Ideal.cmp .ogt t (Ideal.ofBits .f32 0x00000000#32)) (Ideal.cmp .olt t (Ideal.ofBits .f32 0x7F800000#32)))
    (Ideal.liftRound Int.floor (Ideal.div (Ideal.log t) (Ideal.log (Ideal.ofBits .f32 0x40000000#32))) + Ideal.ofBits .f32 0x3F800000#32)
    (Ideal.ofBits .f32 0x00000000#32)

/-- The reference's scale … -/
def scaleR (t : EReal) : EReal := Ideal.exp2 (expo t)
/-- … and its inverse scale. -/
def invR (t : EReal) : EReal := Ideal.exp2 (Ideal.ofBits .f32 0x00000000#32 - expo t)

/-! ## What the words denote -/

/-- What the field `n` denotes: zero, a power of two, or infinity. -/
def val (n : Nat) : EReal := if n = 255 then ⊤ else if n = 0 then 0 else (((2 : ℝ) ^ ((n : Int) - 127) : ℝ) : EReal)

theorem bits_field : ∀ n : Fin 256,
    ((BitVec.ofNat 32 n.val <<< (23#32)).extractLsb' 23 8).toNat = n.val
    ∧ ((BitVec.ofNat 32 n.val <<< (23#32)).extractLsb' 0 23).toNat = 0
    ∧ ((BitVec.ofNat 32 n.val <<< (23#32)).extractLsb' 31 1 == 1#1) = false := by decide +kernel

theorem fieldF_eq (n : Nat) (h : n < 256) : fieldF (BitVec.ofNat 32 n) = val n := by
  obtain ⟨h1, h2, h3⟩ := bits_field ⟨n, h⟩
  dsimp only at h1 h2 h3
  have hs : IntOp.shli .vector (BitVec.ofNat 32 n) 23#32 = BitVec.ofNat 32 n <<< (23#32) := rfl
  unfold fieldF
  rw [hs]
  show Ideal.ieee 8 23 _ = _
  unfold Ideal.ieee val
  dsimp only
  rw [h1, h2, h3]
  by_cases h255 : n = 255
  · subst h255; simp
  · rw [if_neg (by simpa using h255), if_neg h255]
    by_cases h0 : n = 0
    · subst h0; simp
    · rw [if_neg h0, if_neg h0]
      have e : ((n : Int) - 127) = 23 + ((n : Int) - (2 ^ (8 - 1) - 1) - (23 : Nat)) := by norm_num
      have c : (((2 ^ 23 + 0 : Nat)) : ℝ) = (2 : ℝ) ^ (23 : Int) := by norm_num
      rw [e, zpow_add₀ (by norm_num : (2 : ℝ) ≠ 0), if_neg (by decide), one_mul, c]

theorem ofBits_one : Ideal.ofBits .f32 0x3F800000#32 = ((1 : ℝ) : EReal) := by
  have := fieldF_eq 127 (by norm_num)
  have h2 : fieldF (BitVec.ofNat 32 127) = Ideal.ofBits .f32 0x3F800000#32 := rfl
  rw [← h2, this]; simp [val]

theorem ofBits_two : Ideal.ofBits .f32 0x40000000#32 = ((2 : ℝ) : EReal) := by
  have := fieldF_eq 128 (by norm_num)
  have h2 : fieldF (BitVec.ofNat 32 128) = Ideal.ofBits .f32 0x40000000#32 := rfl
  rw [← h2, this]; simp [val]

theorem ofBits_min : Ideal.ofBits .f32 0x00800000#32 = val 1 := by
  have h2 : fieldF (BitVec.ofNat 32 1) = Ideal.ofBits .f32 0x00800000#32 := rfl
  rw [← h2, fieldF_eq 1 (by norm_num)]

theorem ofBits_top : Ideal.ofBits .f32 0x7E800000#32 = (((2 : ℝ) ^ (126 : Int) : ℝ) : EReal) := by
  have h2 : fieldF (BitVec.ofNat 32 253) = Ideal.ofBits .f32 0x7E800000#32 := rfl
  rw [← h2, fieldF_eq 253 (by norm_num)]; simp [val]

theorem ofBits_inf : Ideal.ofBits .f32 0x7F800000#32 = ⊤ := by
  have h2 : fieldF (BitVec.ofNat 32 255) = Ideal.ofBits .f32 0x7F800000#32 := rfl
  rw [← h2, fieldF_eq 255 (by norm_num)]; simp [val]

/-! ## The bisection -/

/-- The field `n` is right for `t` up to `k`: it denotes at most `t`, and the field `n + k` (if there is one) more. -/
def Below (t : EReal) (k n : Nat) : Prop := n + k ≤ 256 ∧ val n ≤ t ∧ (n + k = 256 ∨ t < val (n + k))

theorem step_below {t : EReal} {k n : Nat} (hk : 0 < k) (h : Below t (k + k) n) :
    ∃ n', step t (BitVec.ofNat 32 k) (BitVec.ofNat 32 n) = BitVec.ofNat 32 n' ∧ Below t k n' := by
  obtain ⟨h1, h2, h3⟩ := h
  have ha : IntOp.addi (BitVec.ofNat 32 n) (BitVec.ofNat 32 k) = BitVec.ofNat 32 (n + k) := (BitVec.ofNat_add ..).symm
  unfold step
  rw [ha, fieldF_eq (n + k) (by omega)]
  by_cases hc : val (n + k) ≤ t
  · refine ⟨n + k, ?_, by omega, hc, ?_⟩
    · simp [Scalar.select, Ideal.cmp, hc]
    · rw [Nat.add_assoc]; exact h3
  · refine ⟨n, ?_, by omega, h2, Or.inr (not_le.mp hc)⟩
    simp [Scalar.select, Ideal.cmp, hc]

/-- The bisection of a `t ≥ 0` ends at the field `n` with `val n ≤ t < val (n + 1)`. -/
theorem bisect_below {t : EReal} (h0 : 0 ≤ t) : ∃ n, bisect t = BitVec.ofNat 32 n ∧ Below t 1 n := by
  have b0 : Below t (128 + 128) 0 := ⟨by norm_num, by simpa [val] using h0, Or.inl rfl⟩
  obtain ⟨n1, e1, b1⟩ := step_below (by norm_num) b0
  obtain ⟨n2, e2, b2⟩ := step_below (k := 64) (by norm_num) b1
  obtain ⟨n3, e3, b3⟩ := step_below (k := 32) (by norm_num) b2
  obtain ⟨n4, e4, b4⟩ := step_below (k := 16) (by norm_num) b3
  obtain ⟨n5, e5, b5⟩ := step_below (k := 8) (by norm_num) b4
  obtain ⟨n6, e6, b6⟩ := step_below (k := 4) (by norm_num) b5
  obtain ⟨n7, e7, b7⟩ := step_below (k := 2) (by norm_num) b6
  obtain ⟨n8, e8, b8⟩ := step_below (k := 1) (by norm_num) b7
  refine ⟨n8, ?_, b8⟩
  unfold bisect
  rw [show (0#32 : BitVec 32) = BitVec.ofNat 32 0 from rfl, e1, e2, e3, e4, e5, e6, e7, e8]

/-! ## The equation -/

theorem cmpi_eq_ofNat (n k : Nat) (hn : n < 256) (hk : k < 256) :
    IntOp.cmpi .eq (BitVec.ofNat 32 n) (BitVec.ofNat 32 k) = BitVec.ofBool (decide (n = k)) := by
  have h : ((BitVec.ofNat 32 n) == (BitVec.ofNat 32 k)) = decide (n = k) := by
    rw [Bool.eq_iff_iff, beq_iff_eq, decide_eq_true_iff]
    constructor
    · intro h
      have := congrArg BitVec.toNat h
      simp only [BitVec.toNat_ofNat] at this
      omega
    · rintro rfl; rfl
  show BitVec.ofBool (BitVec.ofNat 32 n == BitVec.ofNat 32 k) = _
  rw [h]

theorem field_eq {t : EReal} {n : Nat} (hn : n < 256) (hb : bisect t = BitVec.ofNat 32 n) :
    field t = BitVec.ofNat 32 (if n = 0 ∨ n = 255 then 126 else n) := by
  unfold field
  rw [hb, cmpi_eq_ofNat n 0 hn (by norm_num), cmpi_eq_ofNat n 255 hn (by norm_num)]
  by_cases h1 : n = 0 <;> by_cases h2 : n = 255 <;> simp [Scalar.select, IntOp.ori, h1, h2]

theorem scaleK_of {t : EReal} {n : Nat} (hn : n < 255) (hf : field t = BitVec.ofNat 32 n) : scaleK t = val (n + 1) := by
  unfold scaleK
  rw [hf, show IntOp.addi (BitVec.ofNat 32 n) 1#32 = BitVec.ofNat 32 (n + 1) from (BitVec.ofNat_add ..).symm,
    fieldF_eq _ (by omega)]

theorem invK_of {t : EReal} {n : Nat} (hn : n ≤ 253) (hf : field t = BitVec.ofNat 32 n) : invK t = val (253 - n) := by
  unfold invK
  rw [hf, show IntOp.subi 253#32 (BitVec.ofNat 32 n) = BitVec.ofNat 32 (253 - n) from ?_, fieldF_eq _ (by omega)]
  apply BitVec.eq_of_toNat_eq
  show (253#32 - BitVec.ofNat 32 n).toNat = _
  rw [BitVec.toNat_sub]
  simp only [BitVec.toNat_ofNat]
  omega

theorem expo_of_out {t : EReal} (h : t = 0 ∨ t = ⊤) : expo t = 0 := by
  unfold expo
  rw [ofBits_inf, Ideal.ofBits_zero_f32]
  rcases h with h | h <;> simp [Scalar.select, IntOp.andi, Ideal.cmp, h]

theorem expo_of_in {r : ℝ} {n : Nat} (h1 : (2 : ℝ) ^ ((n : Int) - 127) ≤ r) (h2 : r < (2 : ℝ) ^ ((n : Int) - 126)) :
    expo (r : EReal) = (((n : ℝ) - 126 : ℝ) : EReal) := by
  have hr : 0 < r := lt_of_lt_of_le (zpow_pos (by norm_num) _) h1
  have hlog2 : Real.log 2 ≠ 0 := (Real.log_pos (by norm_num)).ne'
  have hpos : (0 : EReal) < (r : EReal) := by exact_mod_cast hr
  have hfl : ⌊Real.log r / Real.log 2⌋ = (n : Int) - 127 := by
    rw [Int.floor_eq_iff]
    have hp : 0 < Real.log 2 := Real.log_pos (by norm_num)
    constructor
    · rw [le_div_iff₀ hp, ← Real.log_zpow]
      exact Real.log_le_log (zpow_pos (by norm_num) _) h1
    · have : ((((n : Int) - 127 : Int) : ℝ) + 1) = (((n : Int) - 126 : Int) : ℝ) := by push_cast; ring
      rw [this, div_lt_iff₀ hp, ← Real.log_zpow]
      exact Real.log_lt_log hr h2
  unfold expo
  rw [ofBits_inf, ofBits_two, ofBits_one, Ideal.ofBits_zero_f32]
  have hl : Ideal.log (r : EReal) = ((Real.log r : ℝ) : EReal) := by show (if r ≤ 0 then (⊥ : EReal) else _) = _; rw [if_neg (not_le.mpr hr)]
  have hl2 : Ideal.log ((2 : ℝ) : EReal) = ((Real.log 2 : ℝ) : EReal) := by
    show (if (2 : ℝ) ≤ 0 then (⊥ : EReal) else _) = _; rw [if_neg (by norm_num)]
  have hd : Ideal.div ((Real.log r : ℝ) : EReal) ((Real.log 2 : ℝ) : EReal) = ((Real.log r / Real.log 2 : ℝ) : EReal) := by
    unfold Ideal.div
    rw [if_neg (by exact_mod_cast hlog2), ← EReal.coe_inv, ← EReal.coe_mul, div_eq_mul_inv]
  rw [hl, hl2, hd]
  have hfl' : Ideal.liftRound Int.floor ((Real.log r / Real.log 2 : ℝ) : EReal) = (((n : ℝ) - 127 : ℝ) : EReal) := by
    show (((⌊Real.log r / Real.log 2⌋ : Int) : ℝ) : EReal) = _
    rw [hfl]; push_cast; rfl
  rw [hfl', ← EReal.coe_add]
  have hlt : (r : EReal) < ⊤ := EReal.coe_lt_top r
  simp only [Scalar.select, IntOp.andi, Ideal.cmp, hpos, hlt, decide_true]
  simp only [BitVec.ofBool_true, BitVec.and_self]
  rw [if_pos (by decide)]
  congr 1; ring

theorem exp2_int (n : Int) : Ideal.exp2 (((n : ℝ)) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem exp2_zero : Ideal.exp2 0 = 1 := by
  have := exp2_int 0
  simpa using this

/-- The admissible scaled maxima: zero, infinite, or at least `2 ^ (-126)` and below `2 ^ 126`. -/
def Good (t : EReal) : Prop :=
  t = 0 ∨ t = ⊤ ∨ (Ideal.ofBits .f32 0x00800000#32 ≤ t ∧ t < Ideal.ofBits .f32 0x7E800000#32)

/-- The scale and the inverse scale of the kernel are the reference's. -/
theorem both_eq {t : EReal} (h : Good t) : scaleK t = scaleR t ∧ invK t = invR t := by
  unfold Good at h
  rw [ofBits_min, ofBits_top] at h
  have hv1 : (0 : EReal) < val 1 := by
    norm_num [val]
  have h0 : 0 ≤ t := by
    rcases h with h | h | h
    · exact h.ge
    · rw [h]; exact le_top
    · exact hv1.le.trans h.1
  obtain ⟨n, hb, hn, hlo, hhi⟩ := bisect_below h0
  have hf := field_eq (by omega) hb
  unfold scaleR invR
  rw [Ideal.ofBits_zero_f32]
  by_cases hout : n = 0 ∨ n = 255
  · rw [if_pos hout] at hf
    have he : expo t = 0 := by
      refine expo_of_out ?_
      rcases hout with h | h
      · subst h; rcases hhi with hlt | hlt
        · omega
        · rcases ‹t = 0 ∨ _› with h | h | h
          · exact Or.inl h
          · exact Or.inr h
          · exact absurd h.1 (not_le.mpr hlt)
      · subst h; right; simpa [val] using hlo
    rw [he, scaleK_of (by omega) hf, invK_of (by omega) hf]
    simp [val, exp2_zero]
  · rw [if_neg hout] at hf
    push Not at hout
    obtain ⟨hn0, hn255⟩ := hout
    have hlo' : (((2 : ℝ) ^ ((n : Int) - 127) : ℝ) : EReal) ≤ t := by simpa [val, hn0, hn255] using hlo
    rcases h with h | h | ⟨-, h126⟩
    · subst h
      exact absurd hlo' (not_le.mpr (by exact_mod_cast (by positivity : (0 : ℝ) < (2 : ℝ) ^ ((n : Int) - 127))))
    · subst h
      rcases hhi with h | h
      · omega
      · exact absurd h (not_lt.mpr le_top)
    have hn252 : n ≤ 252 := by
      have := lt_of_le_of_lt hlo' h126
      rw [EReal.coe_lt_coe_iff, zpow_lt_zpow_iff_right₀ (by norm_num)] at this
      omega
    have hhi' : t < (((2 : ℝ) ^ ((n : Int) - 126) : ℝ) : EReal) := by
      rcases hhi with h | h
      · omega
      · have e : val (n + 1) = (((2 : ℝ) ^ ((n : Int) - 126) : ℝ) : EReal) := by
          unfold val
          rw [if_neg (by omega), if_neg (by omega)]
          congr 2; push_cast; ring
        rwa [e] at h
    induction t with
    | bot => exact absurd hlo' (by simp)
    | top => exact absurd h126 (by simp)
    | coe r =>
      rw [EReal.coe_le_coe_iff] at hlo'
      rw [EReal.coe_lt_coe_iff] at hhi'
      rw [expo_of_in hlo' hhi', scaleK_of (by omega) hf, invK_of (by omega) hf]
      have e1 : (((n : ℝ) - 126 : ℝ) : EReal) = ((((n : Int) - 126 : Int) : ℝ) : EReal) := by push_cast; rfl
      have e2 : (0 : EReal) - (((n : ℝ) - 126 : ℝ) : EReal) = (((126 - (n : Int) : Int) : ℝ) : EReal) := by
        rw [← EReal.coe_zero, ← EReal.coe_sub]; congr 1; push_cast; ring
      rw [e2, e1, exp2_int, exp2_int]
      unfold val
      rw [if_neg (by omega), if_neg (by omega), if_neg (by omega), if_neg (by omega)]
      constructor
      · congr 2; push_cast; ring
      · congr 2; omega

end Cert.Scale

end
-- ==== Proof.Spec.lean ====
/-
  The five results as functions of the two matrices, index by index, over ANY pair of functions `s`, `i` from a group's scaled maximum
  to its scale and its inverse scale. The kernel's results are these at its bisected scales, the reference's at its powers of two.
-/
module

public import Idealize.ShloMosaic.PureOps.Ideal
public import Idealize.ShloMosaic.Lib.Pointwise

@[expose] public section

noncomputable section

namespace Cert.Spec

open Idealize.ShloMosaic

/-- The matrices with `n` rows and `m` columns. -/
abbrev Mat (n m : Nat) : Type := (⟨2, ![n, m]⟩ : Shape).Idx → EReal

/-- The scaled maximum of a group: the largest absolute value times the f32 number nearest `1 / 448`. -/
def tOf (f : Fin 128 → EReal) : EReal :=
  Finset.fold max (Ideal.ofBits .bf16 0xFF80#16) (fun k => max (f k) (-(f k))) Finset.univ * Ideal.ofBits .f32 0x3B124925#32

/-- A scaled value clipped to ±448. -/
def clip (q : EReal) : EReal := min (Ideal.ofBits .f32 0x43E00000#32) (max (Ideal.ofBits .f32 0xC3E00000#32) q)

variable {n m : Nat}

/-- The scaled maximum of the group of 128 rows that `A r c` lies in, in column `c` … -/
def tX (hn : 128 ∣ n) (A : Mat n m) (r : Fin n) (c : Fin m) : EReal :=
  tOf fun k => A (ix2 ⟨128 * (r.val / 128) + k.val, by have := r.isLt; have := k.isLt; omega⟩ c)
/-- … and of the group of 128 columns that `A r c` lies in, in row `r`. -/
def tD (hm : 128 ∣ m) (A : Mat n m) (r : Fin n) (c : Fin m) : EReal :=
  tOf fun k => A (ix2 r ⟨128 * (c.val / 128) + k.val, by have := c.isLt; have := k.isLt; omega⟩)

/-- The code of `A r c`, its group along the rows … -/
def codeX (i : EReal → EReal) (hn : 128 ∣ n) (A : Mat n m) (r : Fin n) (c : Fin m) : EReal := clip (A (ix2 r c) * i (tX hn A r c))
/-- … and along the columns. -/
def codeD (i : EReal → EReal) (hm : 128 ∣ m) (A : Mat n m) (r : Fin n) (c : Fin m) : EReal := clip (A (ix2 r c) * i (tD hm A r c))

/-- The codes multiplied by their scales again. -/
def deqX (s i : EReal → EReal) (hn : 128 ∣ n) (A : Mat n m) (r : Fin n) (c : Fin m) : EReal := codeX i hn A r c * s (tX hn A r c)
def deqD (s i : EReal → EReal) (hm : 128 ∣ m) (A : Mat n m) (r : Fin n) (c : Fin m) : EReal := codeD i hm A r c * s (tD hm A r c)

/-- The product of the two dequantised matrices over their common rows. -/
def dw {m' : Nat} (s i : EReal → EReal) (hn : 128 ∣ n) (hm : 128 ∣ m') (X : Mat n m) (D : Mat n m') (a : Fin m) (b : Fin m') : EReal :=
  ∑ r : Fin n, deqX s i hn X r a * deqD s i hm D r b

/-! ## Blocks of rows -/

/-- Rows `k * n' …` of a matrix as a block of `n'` rows, `n'` a multiple of 128: the groups are the matrix's. -/
theorem tX_block {n' : Nat} (hn : 128 ∣ n) (hn' : 128 ∣ n') (A : Mat n m) (B : Mat n' m) (k : Nat) (hk : n' * k + n' ≤ n)
    (hB : ∀ (r : Fin n') (c : Fin m), B (ix2 r c) = A (ix2 ⟨n' * k + r.val, by have := r.isLt; omega⟩ c)) (r : Fin n') (c : Fin m) :
    tX hn' B r c = tX hn A ⟨n' * k + r.val, by have := r.isLt; omega⟩ c := by
  unfold tX
  congr 1; funext j
  rw [hB]
  congr 2
  apply Fin.ext
  obtain ⟨q, rfl⟩ := hn'
  show 128 * q * k + (128 * (r.val / 128) + j.val) = 128 * ((128 * q * k + r.val) / 128) + j.val
  rw [Nat.mul_assoc, Nat.mul_add_div (by norm_num)]
  ring

theorem tD_block {n' : Nat} (hm : 128 ∣ m) (A : Mat n m) (B : Mat n' m) (r : Fin n') (r' : Fin n)
    (hB : ∀ c : Fin m, B (ix2 r c) = A (ix2 r' c)) (c : Fin m) : tD hm B r c = tD hm A r' c := by
  unfold tD
  congr 1; funext j
  rw [hB]

/-- The dequantised values of a block of rows are the matrix's, the group along the rows … -/
theorem codeX_block (i : EReal → EReal) {n' : Nat} (hn : 128 ∣ n) (hn' : 128 ∣ n') (A : Mat n m) (B : Mat n' m) (k : Nat)
    (hk : n' * k + n' ≤ n) (hB : ∀ (r : Fin n') (c : Fin m), B (ix2 r c) = A (ix2 ⟨n' * k + r.val, by have := r.isLt; omega⟩ c))
    (r : Fin n') (c : Fin m) : codeX i hn' B r c = codeX i hn A ⟨n' * k + r.val, by have := r.isLt; omega⟩ c := by
  unfold codeX
  rw [hB, tX_block hn hn' A B k hk hB]

theorem deqX_block (s i : EReal → EReal) {n' : Nat} (hn : 128 ∣ n) (hn' : 128 ∣ n') (A : Mat n m) (B : Mat n' m) (k : Nat)
    (hk : n' * k + n' ≤ n) (hB : ∀ (r : Fin n') (c : Fin m), B (ix2 r c) = A (ix2 ⟨n' * k + r.val, by have := r.isLt; omega⟩ c))
    (r : Fin n') (c : Fin m) : deqX s i hn' B r c = deqX s i hn A ⟨n' * k + r.val, by have := r.isLt; omega⟩ c := by
  unfold deqX
  rw [codeX_block i hn hn' A B k hk hB, tX_block hn hn' A B k hk hB]

/-- … or along the columns. -/
theorem codeD_block (i : EReal → EReal) {n' : Nat} (hm : 128 ∣ m) (A : Mat n m) (B : Mat n' m) (r : Fin n') (r' : Fin n)
    (hB : ∀ c : Fin m, B (ix2 r c) = A (ix2 r' c)) (c : Fin m) : codeD i hm B r c = codeD i hm A r' c := by
  unfold codeD
  rw [hB, tD_block hm A B r r' hB]

theorem deqD_block (s i : EReal → EReal) {n' : Nat} (hm : 128 ∣ m) (A : Mat n m) (B : Mat n' m) (r : Fin n') (r' : Fin n)
    (hB : ∀ c : Fin m, B (ix2 r c) = A (ix2 r' c)) (c : Fin m) : deqD s i hm B r c = deqD s i hm A r' c := by
  unfold deqD
  rw [codeD_block i hm A B r r' hB, tD_block hm A B r r' hB]

/-- A sum over `a * b` rows is the sum over `a` blocks of the sums over the block's `b` rows. -/
theorem sum_blocks {M : Type} [AddCommMonoid M] (a b : Nat) (f : Fin (a * b) → M) :
    ∑ r : Fin (a * b), f r = ∑ k : Fin a, ∑ r : Fin b, f ⟨b * k.val + r.val, by
      have := k.isLt; have := r.isLt
      calc b * k.val + r.val < b * k.val + b := by omega
        _ = b * (k.val + 1) := by ring
        _ ≤ b * a := Nat.mul_le_mul_left _ (by omega)
        _ = a * b := by ring⟩ := by
  rw [← finProdFinEquiv.sum_comp, Fintype.sum_prod_type]
  refine Finset.sum_congr rfl fun k _ => Finset.sum_congr rfl fun r _ => congrArg f (Fin.ext ?_)
  show r.val + b * k.val = b * k.val + r.val
  ring

/-! ## The results -/

variable (s i : EReal → EReal) (X : Mat 12288 2304) (D : Mat 12288 3584)

/-- Result 1, the weight gradient. -/
def res2 (y : (⟨2, ![2304, 3584]⟩ : Shape).Idx) : EReal := dw s i (by norm_num) (by norm_num) X D (y 0) (y 1)
/-- Result 2, the codes of `x`. -/
def res3 (y : (⟨2, ![12288, 2304]⟩ : Shape).Idx) : EReal := codeX i (by norm_num) X (y 0) (y 1)
/-- Result 3, the scales of `x`: four groups of 128 rows per block of 512. -/
def res4 (y : (⟨3, ![24, 4, 2304]⟩ : Shape).Idx) : EReal :=
  s (tX (by norm_num) X ⟨512 * (y 0).val + 128 * (y 1).val, by
    have h0 : (y 0).val < 24 := (y 0).isLt; have h1 : (y 1).val < 4 := (y 1).isLt; omega⟩ (y 2))
/-- Result 4, the codes of `dy`. -/
def res5 (y : (⟨2, ![12288, 3584]⟩ : Shape).Idx) : EReal := codeD i (by norm_num) D (y 0) (y 1)
/-- Result 5, the scales of `dy`. -/
def res6 (y : (⟨2, ![12288, 28]⟩ : Shape).Idx) : EReal :=
  s (tD (by norm_num) D (y 0) ⟨128 * (y 1).val, by have h1 : (y 1).val < 28 := (y 1).isLt; omega⟩)

end Cert.Spec

end
-- ==== Proof.Values.lean ====
/-
  What the pieces of one grid point hold, index by index, at the extended reals: the results of `Spec` of the point's blocks, at the
  kernel's bisected scales.
-/
module

public import proofs.«01_k».proof.Proof.Blocks
public import proofs.«01_k».proof.Proof.Scale
public import proofs.«01_k».proof.Proof.Spec
public import Idealize.ShloMosaic.Lib.Pipeline.ValueKit.Tiles

@[expose] public section

set_option maxRecDepth 16384

noncomputable section

namespace Cert.Blocks

open Cert.KernelIdeal Cert.KernelIdeal.Gen Idealize.ShloMosaic Cert.Scale

variable {S : Shape}

/-! ## The scales, read at an index -/

theorem stepV_apply (t : FVec Ideal S .f32) (k : BitVec 32) (eb : IVec S 32) (j : S.Idx) : stepV t k eb j = step (t j) k (eb j) := rfl

theorem bisectV_apply (t : FVec Ideal S .f32) (j : S.Idx) : bisectV t j = bisect (t j) := by
  unfold bisectV bisect
  simp only [stepV_apply]
  rfl

theorem fieldV_apply (t : FVec Ideal S .f32) (j : S.Idx) : fieldV t j = field (t j) := by
  unfold field
  rw [← bisectV_apply]
  rfl

theorem scaleV_apply (t : FVec Ideal S .f32) (j : S.Idx) : scaleV t j = scaleK (t j) := by
  unfold scaleK
  rw [← fieldV_apply]
  rfl

theorem invV_apply (t : FVec Ideal S .f32) (j : S.Idx) : invV t j = invK (t j) := by
  unfold invK
  rw [← fieldV_apply]
  rfl

/-! ## One group, read at an index -/

theorem tX_apply (v : Vec Ideal S128x2304 .bf16) (a : Fin 1) (b : Fin 2304) : tX v (ix2 a b) = Spec.tOf fun k => v (ix2 k b) := by
  pointwise [tX]
  rfl

theorem tD_apply (v : Vec Ideal S512x128 .bf16) (a : Fin 512) (b : Fin 1) : tD v (ix2 a b) = Spec.tOf fun k => v (ix2 a k) := by
  pointwise [tD]
  rfl

theorem codesX_apply (v : Vec Ideal S128x2304 .bf16) (a : Fin 128) (b : Fin 2304) :
    codesX v (ix2 a b) = Spec.clip (v (ix2 a b) * invK (Spec.tOf fun k => v (ix2 k b))) := by
  pointwise [codesX, codes]
  rw [invV_apply, tX_apply]
  rfl

theorem codesD_apply (v : Vec Ideal S512x128 .bf16) (a : Fin 512) (b : Fin 128) :
    codesD v (ix2 a b) = Spec.clip (v (ix2 a b) * invK (Spec.tOf fun k => v (ix2 a k))) := by
  pointwise [codesD, codes]
  rw [invV_apply, tD_apply]
  rfl

theorem scalesX_apply (v : Vec Ideal S128x2304 .bf16) (a b : Fin 1) (c : Fin 2304) :
    scalesX v (ix3 a b c) = scaleK (Spec.tOf fun k => v (ix2 k c)) := by
  pointwise [scalesX]
  rw [scaleV_apply, tX_apply]

theorem scalesD_apply (v : Vec Ideal S512x128 .bf16) (a : Fin 512) (b : Fin 1) :
    scalesD v (ix2 a b) = scaleK (Spec.tOf fun k => v (ix2 a k)) := by
  unfold scalesD
  rw [scaleV_apply, tD_apply]

theorem deqX_apply (v : Vec Ideal S128x2304 .bf16) (a : Fin 128) (b : Fin 2304) :
    deqX v (ix2 a b) = codesX v (ix2 a b) * scaleK (Spec.tOf fun k => v (ix2 k b)) := by
  pointwise [deqX]
  rw [scaleV_apply, tX_apply]

theorem deqD_apply (v : Vec Ideal S512x128 .bf16) (a : Fin 512) (b : Fin 128) :
    deqD v (ix2 a b) = codesD v (ix2 a b) * scaleK (Spec.tOf fun k => v (ix2 a k)) := by
  pointwise [deqD]
  rw [scaleV_apply, tD_apply]

/-! ## A group of a block -/

variable (X : Vec Ideal S512x2304 .bf16) (D : Vec Ideal S512x3584 .bf16)

theorem ldX (n : Nat) (h : n + 1 ≤ 4) (a : Fin 128) (b : Fin 2304) :
    View.ld X (rX n h) (ix2 a b) = X (ix2 ⟨128 * n + a.val, by have := a.isLt; omega⟩ b) := by
  refine View.ld_unit_apply_of _ _ _ _ _ _ fun d => ?_
  fin_cases d <;> simp

theorem ldD (n : Nat) (h : n + 1 ≤ 28) (a : Fin 512) (b : Fin 128) :
    View.ld D (rD n h) (ix2 a b) = D (ix2 a ⟨128 * n + b.val, by have := b.isLt; omega⟩) := by
  refine View.ld_unit_apply_of _ _ _ _ _ _ fun d => ?_
  fin_cases d <;> simp

theorem tX_ld (n : Nat) (h : n + 1 ≤ 4) (a : Fin 128) (b : Fin 2304) :
    (Spec.tOf fun k => View.ld X (rX n h) (ix2 k b)) = Spec.tX (by norm_num) X ⟨128 * n + a.val, by have := a.isLt; omega⟩ b := by
  unfold Spec.tX
  congr 1; funext k
  rw [ldX]
  congr 2; apply Fin.ext
  show 128 * n + k.val = 128 * ((128 * n + a.val) / 128) + k.val
  have := a.isLt; omega

theorem tD_ld (n : Nat) (h : n + 1 ≤ 28) (a : Fin 512) (b : Fin 128) :
    (Spec.tOf fun k => View.ld D (rD n h) (ix2 a k)) = Spec.tD (by norm_num) D a ⟨128 * n + b.val, by have := b.isLt; omega⟩ := by
  unfold Spec.tD
  congr 1; funext k
  rw [ldD]
  congr 2; apply Fin.ext
  show 128 * n + k.val = 128 * ((128 * n + b.val) / 128) + k.val
  have := b.isLt; omega

end Cert.Blocks

end
-- ==== Proof.Windows.lean ====
/-
  What one grid point leaves in each output window's buffer: the codes and scales of its blocks, and the accumulator it found (zeros at
  the first point) plus the product of its two dequantised blocks.
-/
module

public import proofs.«01_k».proof.Proof.Values

@[expose] public section

set_option maxRecDepth 16384

noncomputable section

namespace Cert.Blocks

open Cert.KernelIdeal Cert.KernelIdeal.Gen Idealize.ShloMosaic Cert.Scale

variable (X : Vec Ideal S512x2304 .bf16) (D : Vec Ideal S512x3584 .bf16)

/-! ## Where a piece's elements go -/

theorem rX_emb (n : Nat) (h : n + 1 ≤ 4) (a : Fin 128) (b : Fin 2304) :
    (rX n h).emb (ix2 a b) = ix2 ⟨128 * n + a.val, by have := a.isLt; omega⟩ b := by
  funext d; apply Fin.ext
  refine (Rect.idx_unit_val _ _ _ _ d).trans ?_
  fin_cases d <;> simp

theorem rD_emb (n : Nat) (h : n + 1 ≤ 28) (a : Fin 512) (b : Fin 128) :
    (rD n h).emb (ix2 a b) = ix2 a ⟨128 * n + b.val, by have := b.isLt; omega⟩ := by
  funext d; apply Fin.ext
  refine (Rect.idx_unit_val _ _ _ _ d).trans ?_
  fin_cases d <;> simp

theorem rS_emb (n : Nat) (h : n + 1 ≤ 4) (a b : Fin 1) (c : Fin 2304) :
    (rS n h).emb (ix3 a b c) = ix3 a ⟨n, by omega⟩ c := by
  funext d; apply Fin.ext
  refine (Rect.idx_unit_val _ _ _ _ d).trans ?_
  have := b.isLt
  fin_cases d <;> simp

theorem rT_emb (n : Nat) (h : n + 1 ≤ 28) (a : Fin 512) (b : Fin 1) :
    (rT n h).emb (ix2 a b) = ix2 a ⟨n, by omega⟩ := by
  funext d; apply Fin.ext
  refine (Rect.idx_unit_val _ _ _ _ d).trans ?_
  have := b.isLt
  fin_cases d <;> simp

theorem rW_emb (n : Nat) (h : n + 1 ≤ 7) (a : Fin 2304) (b : Fin 512) :
    (rW n h).emb (ix2 a b) = ix2 a ⟨512 * n + b.val, by have := b.isLt; omega⟩ := by
  funext d; apply Fin.ext
  refine (Rect.idx_unit_val _ _ _ _ d).trans ?_
  fin_cases d <;> simp

/-! ## The codes and the scales -/

/-- The codes of an `x` block. -/
def E3 (y : S512x2304.Idx) : EReal := Spec.codeX invK (by norm_num) X (y 0) (y 1)
/-- The scales of an `x` block. -/
def E4 (y : S1x4x2304.Idx) : EReal := scaleK (Spec.tX (by norm_num) X ⟨128 * (y 1).val, by have : (y 1).val < 4 := (y 1).isLt; omega⟩ (y 2))
/-- The codes of a `dy` block. -/
def E5 (y : S512x3584.Idx) : EReal := Spec.codeD invK (by norm_num) D (y 0) (y 1)
/-- The scales of a `dy` block. -/
def E6 (y : S512x28.Idx) : EReal := scaleK (Spec.tD (by norm_num) D (y 0) ⟨128 * (y 1).val, by have : (y 1).val < 28 := (y 1).isLt; omega⟩)
/-- The dequantised `x` block. -/
def E8 (y : S512x2304.Idx) : EReal := Spec.deqX scaleK invK (by norm_num) X (y 0) (y 1)

theorem good3 : ∀ (n : Nat) (h : n ≤ 4), ∀ p ∈ pcs3 X n h, ∀ x : p.1.shape.Idx, p.2 x = E3 X (p.1.emb x)
  | 0, _ => fun _ hp => absurd hp List.not_mem_nil
  | n + 1, h => by
    intro p hp
    rcases List.mem_cons.mp hp with rfl | hp
    · intro (x : S128x2304.Idx)
      obtain ⟨a, b, rfl⟩ : ∃ (a : Fin 128) (b : Fin 2304), x = ix2 a b := ⟨x 0, x 1, eq_ix2 x⟩
      refine Eq.trans ?_ (congrArg (E3 X) (rX_emb n h a b)).symm
      show codesX (F := Ideal) _ _ = _
      rw [codesX_apply, ldX, tX_ld X n h a]
      rfl
    · exact good3 n _ p hp

theorem good8 : ∀ (n : Nat) (h : n ≤ 4), ∀ p ∈ pcs8 X n h, ∀ x : p.1.shape.Idx, p.2 x = E8 X (p.1.emb x)
  | 0, _ => fun _ hp => absurd hp List.not_mem_nil
  | n + 1, h => by
    intro p hp
    rcases List.mem_cons.mp hp with rfl | hp
    · intro (x : S128x2304.Idx)
      obtain ⟨a, b, rfl⟩ : ∃ (a : Fin 128) (b : Fin 2304), x = ix2 a b := ⟨x 0, x 1, eq_ix2 x⟩
      refine Eq.trans ?_ (congrArg (E8 X) (rX_emb n h a b)).symm
      show deqX (F := Ideal) _ _ = _
      rw [deqX_apply, codesX_apply, ldX, tX_ld X n h a]
      rfl
    · exact good8 n _ p hp

theorem good4 : ∀ (n : Nat) (h : n ≤ 4), ∀ p ∈ pcs4 X n h, ∀ x : p.1.shape.Idx, p.2 x = E4 X (p.1.emb x)
  | 0, _ => fun _ hp => absurd hp List.not_mem_nil
  | n + 1, h => by
    intro p hp
    rcases List.mem_cons.mp hp with rfl | hp
    · intro (x : S1x1x2304.Idx)
      obtain ⟨a, b, d, rfl⟩ : ∃ (a b : Fin 1) (d : Fin 2304), x = ix3 a b d := ⟨x 0, x 1, x 2, eq_ix3 x⟩
      refine Eq.trans ?_ (congrArg (E4 X) (rS_emb n h a b d)).symm
      show scalesX (F := Ideal) _ _ = _
      rw [scalesX_apply, tX_ld X n h 0]
      rfl
    · exact good4 n _ p hp

theorem good5 : ∀ (n : Nat) (h : n ≤ 28), ∀ p ∈ pcs5 D n h, ∀ x : p.1.shape.Idx, p.2 x = E5 D (p.1.emb x)
  | 0, _ => fun _ hp => absurd hp List.not_mem_nil
  | n + 1, h => by
    intro p hp
    rcases List.mem_cons.mp hp with rfl | hp
    · intro (x : S512x128.Idx)
      obtain ⟨a, b, rfl⟩ : ∃ (a : Fin 512) (b : Fin 128), x = ix2 a b := ⟨x 0, x 1, eq_ix2 x⟩
      refine Eq.trans ?_ (congrArg (E5 D) (rD_emb n h a b)).symm
      show codesD (F := Ideal) _ _ = _
      rw [codesD_apply, ldD, tD_ld D n h a b]
      rfl
    · exact good5 n _ p hp

theorem good6 : ∀ (n : Nat) (h : n ≤ 28), ∀ p ∈ pcs6 D n h, ∀ x : p.1.shape.Idx, p.2 x = E6 D (p.1.emb x)
  | 0, _ => fun _ hp => absurd hp List.not_mem_nil
  | n + 1, h => by
    intro p hp
    rcases List.mem_cons.mp hp with rfl | hp
    · intro (x : S512x1.Idx)
      obtain ⟨a, b, rfl⟩ : ∃ (a : Fin 512) (b : Fin 1), x = ix2 a b := ⟨x 0, x 1, eq_ix2 x⟩
      refine Eq.trans ?_ (congrArg (E6 D) (rT_emb n h a b)).symm
      show scalesD (F := Ideal) _ _ = _
      rw [scalesD_apply, tD_ld D n h a 0]
      rfl
    · exact good6 n _ p hp

/-! ## The dequantised blocks the matrix product reads -/

theorem mem_rX (n : Nat) (h : n + 1 ≤ 4) (r : Fin 512) (c : Fin 2304) (hr : r.val / 128 = n) : (ix2 r c : S512x2304.Idx) ∈ (rX n h).set := by
  rw [Rect.mem_set_unit]
  intro d
  have := r.isLt; have := c.isLt
  fin_cases d <;> simp <;> omega

theorem cover8 : ∀ (n : Nat) (h : n ≤ 4) (r : Fin 512) (c : Fin 2304), r.val < 128 * n → ∃ p ∈ pcs8 X n h, (ix2 r c : S512x2304.Idx) ∈ p.1.set
  | 0, _, r, _, hr => by omega
  | n + 1, h, r, c, hr => by
    by_cases hq : r.val < 128 * n
    · obtain ⟨p, hp, hm⟩ := cover8 n (Nat.le_of_succ_le h) r c hq
      exact ⟨p, List.mem_cons_of_mem _ hp, hm⟩
    · exact ⟨_, List.mem_cons_self, mem_rX n h r c (by omega)⟩

theorem xw_apply (arg8 : Memref sig .tc .vmem S512x2304 .bf16) (r : Fin 512) (c : Fin 2304) :
    xw arg8 X (ix2 r c) = Spec.deqX scaleK invK (by norm_num) X r c := by
  unfold xw
  rw [View.readCov_eq_canon']
  have hi : (Rect.unit (s := S512x2304) ![0, 0] ![512, 2304] inb_S512x2304_S512x2304_0_0).toLoadRect.idx (ix2 r c) = ix2 r c := by
    funext d; apply Fin.ext
    refine (Rect.idx_unit_val _ _ _ _ d).trans ?_
    fin_cases d <;> simp
  show View.canon _ _ = _
  rw [hi]
  exact View.canon_apply_of_pieces (E8 X) _ (good8 X 4 _) _ (cover8 X 4 _ r c (by have := r.isLt; omega))

theorem deqD_ld (n : Nat) (h : n + 1 ≤ 28) (a : Fin 512) (b : Fin 128) :
    deqD (View.ld D (rD n h)) (ix2 a b) = Spec.deqD scaleK invK (by norm_num) D a ⟨128 * n + b.val, by have := b.isLt; omega⟩ := by
  rw [deqD_apply, codesD_apply, ldD, tD_ld D n h a b]
  rfl

theorem dyw_apply (n : Nat) (h : n + 1 ≤ 7) (r : Fin 512) (b : Fin 512) :
    dyw D n h (ix2 r b) = Spec.deqD scaleK invK (by norm_num) D r ⟨512 * n + b.val, by have := b.isLt; omega⟩ := by
  pointwise [dyw]
  split_ifs with h1 h2 h3
  all_goals
    rw [deqD_ld]
    congr 1; apply Fin.ext; dsimp only; omega

theorem accTile_apply (arg8 : Memref sig .tc .vmem S512x2304 .bf16) (n : Nat) (h : n + 1 ≤ 7) (o : Vec Ideal S2304x512 .f32)
    (a : Fin 2304) (b : Fin 512) : accTile arg8 X D n h o (ix2 a b)
      = o (ix2 a b) + Spec.dw scaleK invK (by norm_num) (by norm_num) X D a ⟨512 * n + b.val, by have := b.isLt; omega⟩ := by
  pointwise [accTile]
  simp only [xw_apply, dyw_apply]
  rfl

/-! ## The accumulator -/

theorem ldW (O : Vec Ideal S2304x3584 .f32) (n : Nat) (h : n + 1 ≤ 7) (a : Fin 2304) (b : Fin 512) :
    View.ld O (rW n h) (ix2 a b) = O (ix2 a ⟨512 * n + b.val, by have := b.isLt; omega⟩) := by
  refine View.ld_unit_apply_of _ _ _ _ _ _ fun d => ?_
  fin_cases d <;> simp

/-- The product of the two dequantised blocks. -/
def P2 (y : S2304x3584.Idx) : EReal := Spec.dw scaleK invK (by norm_num) (by norm_num) X D (y 0) (y 1)
/-- The accumulator after a point that found `O`. -/
def E2 (O : S2304x3584.Idx → EReal) (y : S2304x3584.Idx) : EReal := O y + P2 X D y

theorem good2 (arg8 : Memref sig .tc .vmem S512x2304 .bf16) (O : Vec Ideal S2304x3584 .f32) :
    ∀ (n : Nat) (h : n ≤ 7), ∀ p ∈ pcs2B arg8 X D O n h, ∀ x : p.1.shape.Idx, p.2 x = E2 X D O (p.1.emb x)
  | 0, _ => fun _ hp => absurd hp List.not_mem_nil
  | n + 1, h => by
    intro p hp
    rcases List.mem_cons.mp hp with rfl | hp
    · intro (x : S2304x512.Idx)
      obtain ⟨a, b, rfl⟩ : ∃ (a : Fin 2304) (b : Fin 512), x = ix2 a b := ⟨x 0, x 1, eq_ix2 x⟩
      refine Eq.trans ?_ (congrArg (E2 X D O) (rW_emb n h a b)).symm
      show accTile (F := Ideal) _ _ _ _ _ _ _ = _
      rw [accTile_apply, ldW]
      rfl
    · exact good2 arg8 O n _ p hp

theorem mem_rW (n : Nat) (h : n + 1 ≤ 7) (y : S2304x3584.Idx) : y ∈ (rW n h).set ↔ 512 * n ≤ (y 1).val ∧ (y 1).val < 512 * n + 512 := by
  rw [Rect.mem_set_unit]
  have h0 : (y 0).val < 2304 := (y 0).isLt
  constructor
  · intro hy; exact hy 1
  · intro hy d
    fin_cases d
    · exact ⟨Nat.zero_le _, by simpa using h0⟩
    · exact hy

theorem canon_at {s : Shape} {e : EltTy} {r : Rect s} (w : r.shape.Idx → Elt Ideal e) (L : List (View.Piece (Elt Ideal) s e))
    (x : r.shape.Idx) {y : s.Idx} (hx : r.emb x = y) : View.canon (⟨r, w⟩ :: L) y = w x := by
  subst hx; exact View.canon_cons_emb _ _ _ _

theorem canon_off {s : Shape} {e : EltTy} {r : Rect s} (w : r.shape.Idx → Elt Ideal e) (L : List (View.Piece (Elt Ideal) s e))
    {y : s.Idx} (hy : y ∉ r.set) : View.canon (⟨r, w⟩ :: L) y = View.canon L y :=
  View.canon_cons_of_not_mem ⟨r, w⟩ L hy

theorem readCov_at {s : Shape} {e : EltTy} {sp : Space} (v : View sig .tc sp s e) (L : List (View.Piece (Elt Ideal) s e)) {B : LoadRect s}
    (x : B.shape.Idx) {y : s.Idx} (hx : B.idx x = y) : v.readCov L B x = View.canon L y := by
  subst hx; rw [View.readCov_eq_canon']

theorem P2_at (n : Nat) (h : n + 1 ≤ 7) (a : Fin 2304) (b : Fin 512) {y : S2304x3584.Idx} (hy : (rW n h).emb (ix2 a b) = y) :
    P2 X D y = Spec.dw scaleK invK (by norm_num) (by norm_num) X D a ⟨512 * n + b.val, by have := b.isLt; omega⟩ := by
  have h2 : y = ix2 a ⟨512 * n + b.val, by have := b.isLt; omega⟩ := hy.symm.trans (rW_emb n h a b)
  rw [h2]; rfl

/-- At the first point, after `n` tiles: the product in the tiles stored, zero in the rest. -/
theorem canon2A (arg3 : Memref sig .tc .vmem S2304x3584 .f32) (arg8 : Memref sig .tc .vmem S512x2304 .bf16) :
    ∀ (n : Nat) (h : n ≤ 7) (y : S2304x3584.Idx),
      View.canon (pcs2A (F := Ideal) arg3 arg8 X D n h) y = if (y 1).val < 512 * n then 0 + P2 X D y else (0 : EReal) := by
  intro n
  induction n with
  | zero =>
    intro h y
    have hm : (Rect.unit (s := S2304x3584) ![0, 0] ![2304, 3584] inb_S2304x3584_S2304x3584_0_0).emb y = y := by
      funext d; apply Fin.ext
      refine (Rect.idx_unit_val _ _ _ _ d).trans ?_
      fin_cases d <;> simp
    rw [if_neg (by omega)]
    exact (canon_at _ _ _ hm).trans Ideal.ofBits_zero_f32
  | succ n ih =>
    intro h y
    have ih' := ih (Nat.le_of_succ_le h) y
    by_cases hy : y ∈ (rW n h).set
    · have hb := (mem_rW n h y).mp hy
      rw [if_pos (by omega)]
      rw [if_neg (by omega)] at ih'
      obtain ⟨x, hx⟩ : ∃ x, (rW n h).idx x = y := LoadRect.exists_idx_of_mem _ hy
      obtain ⟨a, b, rfl⟩ : ∃ (a : Fin 2304) (b : Fin 512), x = ix2 a b := ⟨x 0, x 1, eq_ix2 (n0 := 2304) (n1 := 512) x⟩
      have he : (rW n h).emb (ix2 a b) = y := hx
      refine (canon_at _ _ _ he).trans ?_
      refine (accTile_apply X D arg8 n h _ a b).trans ?_
      refine congr (congrArg HAdd.hAdd ((readCov_at _ _ _ hx).trans ih')) ?_
      exact (P2_at X D n h a b he).symm
    · have hb := (mem_rW n h y).not.mp hy
      refine (canon_off _ _ hy).trans (ih'.trans ?_)
      by_cases h1 : (y 1).val < 512 * n
      · rw [if_pos h1, if_pos (by omega)]
      · rw [if_neg h1, if_neg (by omega)]

/-! ## The windows after the body -/

variable (c : Dev nD) (i : grid0.Coords) (arg1 : Memref sig .tc .vmem S512x2304 .bf16) (harg1 : arg1.IsWhole) (arg2 : Memref sig .tc .vmem S512x3584 .bf16) (harg2 : arg2.IsWhole) (arg3 : Memref sig .tc .vmem S2304x3584 .f32) (harg3 : arg3.IsWhole) (arg4 : Memref sig .tc .vmem S512x2304 .fp8e4m3) (harg4 : arg4.IsWhole) (arg5 : Memref sig .tc .vmem S1x4x2304 .f32) (harg5 : arg5.IsWhole) (arg6 : Memref sig .tc .vmem S512x3584 .fp8e4m3) (harg6 : arg6.IsWhole) (arg7 : Memref sig .tc .vmem S512x28 .f32) (harg7 : arg7.IsWhole) (arg8 : Memref sig .tc .vmem S512x2304 .bf16) (harg8 : arg8.IsWhole)
variable (hA : cond0_0 i) (hB : ¬cond0_0 i) (O : Vec Ideal S2304x3584 .f32)

theorem outA_2 : out0_A_2 (F := Ideal) c i arg1 harg1 arg2 harg2 arg3 harg3 arg4 harg4 arg5 harg5 arg6 harg6 arg7 harg7 arg8 harg8 hA X D = fun y => 0 + P2 X D y := by
  unfold out0_A_2
  rw [View.read_writes_junk_eq_canon, piecesA_2, harg1.read_unread, harg2.read_unread]
  funext y
  rw [canon2A, if_pos (by have : (y 1).val < 3584 := (y 1).isLt; omega)]

theorem outA_3 : out0_A_3 (F := Ideal) c i arg1 harg1 arg2 harg2 arg3 harg3 arg4 harg4 arg5 harg5 arg6 harg6 arg7 harg7 arg8 harg8 hA X D = E3 X := by
  unfold out0_A_3
  rw [View.read_writes_junk_eq_canon]
  funext y
  refine View.canon_apply_of_pieces _ _ ?_ y (cover0_A_3 c i arg1 harg1 arg2 harg2 arg3 harg3 arg4 harg4 arg5 harg5 arg6 harg6 arg7 harg7 arg8 harg8 hA X D y)
  rw [piecesA_3, harg1.read_unread]
  exact good3 X 4 _

theorem outA_4 : out0_A_4 (F := Ideal) c i arg1 harg1 arg2 harg2 arg3 harg3 arg4 harg4 arg5 harg5 arg6 harg6 arg7 harg7 arg8 harg8 hA X D = E4 X := by
  unfold out0_A_4
  rw [View.read_writes_junk_eq_canon]
  funext y
  refine View.canon_apply_of_pieces _ _ ?_ y (cover0_A_4 c i arg1 harg1 arg2 harg2 arg3 harg3 arg4 harg4 arg5 harg5 arg6 harg6 arg7 harg7 arg8 harg8 hA X D y)
  rw [piecesA_4, harg1.read_unread]
  exact good4 X 4 _

theorem outA_5 : out0_A_5 (F := Ideal) c i arg1 harg1 arg2 harg2 arg3 harg3 arg4 harg4 arg5 harg5 arg6 harg6 arg7 harg7 arg8 harg8 hA X D = E5 D := by
  unfold out0_A_5
  rw [View.read_writes_junk_eq_canon]
  funext y
  refine View.canon_apply_of_pieces _ _ ?_ y (cover0_A_5 c i arg1 harg1 arg2 harg2 arg3 harg3 arg4 harg4 arg5 harg5 arg6 harg6 arg7 harg7 arg8 harg8 hA X D y)
  rw [piecesA_5, harg2.read_unread]
  exact good5 D 28 _

theorem outA_6 : out0_A_6 (F := Ideal) c i arg1 harg1 arg2 harg2 arg3 harg3 arg4 harg4 arg5 harg5 arg6 harg6 arg7 harg7 arg8 harg8 hA X D = E6 D := by
  unfold out0_A_6
  rw [View.read_writes_junk_eq_canon]
  funext y
  refine View.canon_apply_of_pieces _ _ ?_ y (cover0_A_6 c i arg1 harg1 arg2 harg2 arg3 harg3 arg4 harg4 arg5 harg5 arg6 harg6 arg7 harg7 arg8 harg8 hA X D y)
  rw [piecesA_6, harg2.read_unread]
  exact good6 D 28 _

theorem outB_2 : out0_B_2 (F := Ideal) c i arg1 harg1 arg2 harg2 arg3 harg3 arg4 harg4 arg5 harg5 arg6 harg6 arg7 harg7 arg8 harg8 hB X D O = E2 X D O := by
  unfold out0_B_2
  rw [View.read_writes_junk_eq_canon]
  funext y
  refine View.canon_apply_of_pieces _ _ ?_ y (cover0_B_2 c i arg1 harg1 arg2 harg2 arg3 harg3 arg4 harg4 arg5 harg5 arg6 harg6 arg7 harg7 arg8 harg8 hB X D O y)
  rw [piecesB_2, harg1.read_unread, harg2.read_unread, harg3.read_unread]
  exact good2 X D arg8 O 7 _

theorem outB_3 : out0_B_3 (F := Ideal) c i arg1 harg1 arg2 harg2 arg3 harg3 arg4 harg4 arg5 harg5 arg6 harg6 arg7 harg7 arg8 harg8 hB X D O = E3 X := by
  unfold out0_B_3
  rw [View.read_writes_junk_eq_canon]
  funext y
  refine View.canon_apply_of_pieces _ _ ?_ y (cover0_B_3 c i arg1 harg1 arg2 harg2 arg3 harg3 arg4 harg4 arg5 harg5 arg6 harg6 arg7 harg7 arg8 harg8 hB X D O y)
  rw [piecesB_3, harg1.read_unread]
  exact good3 X 4 _

theorem outB_4 : out0_B_4 (F := Ideal) c i arg1 harg1 arg2 harg2 arg3 harg3 arg4 harg4 arg5 harg5 arg6 harg6 arg7 harg7 arg8 harg8 hB X D O = E4 X := by
  unfold out0_B_4
  rw [View.read_writes_junk_eq_canon]
  funext y
  refine View.canon_apply_of_pieces _ _ ?_ y (cover0_B_4 c i arg1 harg1 arg2 harg2 arg3 harg3 arg4 harg4 arg5 harg5 arg6 harg6 arg7 harg7 arg8 harg8 hB X D O y)
  rw [piecesB_4, harg1.read_unread]
  exact good4 X 4 _

theorem outB_5 : out0_B_5 (F := Ideal) c i arg1 harg1 arg2 harg2 arg3 harg3 arg4 harg4 arg5 harg5 arg6 harg6 arg7 harg7 arg8 harg8 hB X D O = E5 D := by
  unfold out0_B_5
  rw [View.read_writes_junk_eq_canon]
  funext y
  refine View.canon_apply_of_pieces _ _ ?_ y (cover0_B_5 c i arg1 harg1 arg2 harg2 arg3 harg3 arg4 harg4 arg5 harg5 arg6 harg6 arg7 harg7 arg8 harg8 hB X D O y)
  rw [piecesB_5, harg2.read_unread]
  exact good5 D 28 _

theorem outB_6 : out0_B_6 (F := Ideal) c i arg1 harg1 arg2 harg2 arg3 harg3 arg4 harg4 arg5 harg5 arg6 harg6 arg7 harg7 arg8 harg8 hB X D O = E6 D := by
  unfold out0_B_6
  rw [View.read_writes_junk_eq_canon]
  funext y
  refine View.canon_apply_of_pieces _ _ ?_ y (cover0_B_6 c i arg1 harg1 arg2 harg2 arg3 harg3 arg4 harg4 arg5 harg5 arg6 harg6 arg7 harg7 arg8 harg8 hB X D O y)
  rw [piecesB_6, harg2.read_unread]
  exact good6 D 28 _

end Cert.Blocks

end
-- ==== Proof.Arrays.lean ====
/-
  What the five arrays hold after the kernel's run, at the extended reals: the results of `Spec` of the two argument matrices, at the
  kernel's bisected scales. Point `t` works on rows `512 t …`; the codes and scales it writes back are its block of the result, and the
  accumulator after it is the sum of the products of the blocks so far.
-/
module

public import proofs.«01_k».proof.Proof.Windows
public import proofs.«01_k».proof.Proof.Gen.KernelIdeal.Value

@[expose] public section

set_option maxRecDepth 16384

noncomputable section

namespace Cert.Arrays

open Cert.KernelIdeal Cert.KernelIdeal.Gen Cert.KernelIdeal.Value Cert.Blocks Idealize.ShloMosaic Idealize.ShloMosaic.TcCoe Idealize.SL.Sem Cert.Scale
open Idealize.ShloMosaic.Pipeline (Dat)

variable (m : (ℓ : Loc nD τ sig) → Buf (Elt Ideal) ℓ) (c : Dev nD)

/-- The two argument matrices as the region finds them. -/
abbrev MX : Spec.Mat 12288 2304 := V m c main_v0
abbrev MD : Spec.Mat 12288 3584 := V m c main_v1

theorem MX_eq : MX m c = shapeCast S12288x2304 (m ((c : Thread nD τ).loc main_arg0) : S4x3072x2304.Idx → EReal) shapeCasts_S4x3072x2304_S12288x2304 := by
  show StableHlo.after hostOps0 _ (Proc.devRef .tc main_v0) = _
  after_results
  rfl

theorem MD_eq : MD m c = shapeCast S12288x3584 (m ((c : Thread nD τ).loc main_arg1) : S4x3072x3584.Idx → EReal) shapeCasts_S4x3072x3584_S12288x3584 := by
  show StableHlo.after hostOps0 _ (Proc.devRef .tc main_v1) = _
  after_results
  rfl

/-! ## Where the blocks lie -/

theorem lt24 (t : Fin cfg0.N) : t.val < 24 := lt_of_lt_of_eq t.isLt N_0

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 3) = t.val ∧ win0_4.index t (1 : Fin 3) = 0 ∧ win0_4.index t (2 : Fin 3) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)

/-- Row `r` of a window of 512-row blocks is row `512 t + r` of the array. -/
abbrev row (t : Fin cfg0.N) (r : Fin 512) : Fin 12288 := ⟨512 * t.val + r.val, by have := lt24 t; have := r.isLt; omega⟩

theorem emb0 (t : Fin cfg0.N) (r : Fin 512) (b : Fin 2304) :
    ((cfg0.win 0).blk t).view.emb (ix2 r b : S512x2304.Idx) = (ix2 (row t r) b : S12288x2304.Idx) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 2304 + 1 * b.val = b.val; omega

theorem emb1 (t : Fin cfg0.N) (r : Fin 512) (b : Fin 3584) :
    ((cfg0.win 1).blk t).view.emb (ix2 r b : S512x3584.Idx) = (ix2 (row t r) b : S12288x3584.Idx) := by
  obtain ⟨e0, e1⟩ := index1 t
  funext a; apply Fin.ext
  match a with
  | ⟨0, _⟩ => show win0_1.index t (0 : Fin 2) * 512 + 1 * r.val = 512 * t.val + r.val; omega
  | ⟨1, _⟩ => show win0_1.index t (1 : Fin 2) * 3584 + 1 * b.val = b.val; omega

theorem emb3 (t : Fin cfg0.N) (r : Fin 512) (b : Fin 2304) :
    ((cfg0.win 3).blk t).view.emb (ix2 r b : S512x2304.Idx) = (ix2 (row t r) b : S12288x2304.Idx) := by
  obtain ⟨e0, e1⟩ := index3 t
  funext a; apply Fin.ext
  match a with
  | ⟨0, _⟩ => show win0_3.index t (0 : Fin 2) * 512 + 1 * r.val = 512 * t.val + r.val; omega
  | ⟨1, _⟩ => show win0_3.index t (1 : Fin 2) * 2304 + 1 * b.val = b.val; omega

theorem emb5 (t : Fin cfg0.N) (r : Fin 512) (b : Fin 3584) :
    ((cfg0.win 5).blk t).view.emb (ix2 r b : S512x3584.Idx) = (ix2 (row t r) b : S12288x3584.Idx) := by
  obtain ⟨e0, e1⟩ := index5 t
  funext a; apply Fin.ext
  match a with
  | ⟨0, _⟩ => show win0_5.index t (0 : Fin 2) * 512 + 1 * r.val = 512 * t.val + r.val; omega
  | ⟨1, _⟩ => show win0_5.index t (1 : Fin 2) * 3584 + 1 * b.val = b.val; omega

theorem emb6 (t : Fin cfg0.N) (r : Fin 512) (b : Fin 28) :
    ((cfg0.win 6).blk t).view.emb (ix2 r b : S512x28.Idx) = (ix2 (row t r) b : S12288x28.Idx) := by
  obtain ⟨e0, e1⟩ := index6 t
  funext a; apply Fin.ext
  match a with
  | ⟨0, _⟩ => show win0_6.index t (0 : Fin 2) * 512 + 1 * r.val = 512 * t.val + r.val; omega
  | ⟨1, _⟩ => show win0_6.index t (1 : Fin 2) * 28 + 1 * b.val = b.val; omega

theorem emb2 (t : Fin cfg0.N) (j : S2304x3584.Idx) : ((cfg0.win 2).blk t).view.emb j = j := by
  obtain ⟨e0, e1⟩ := index2 t
  funext a; apply Fin.ext
  match a with
  | ⟨0, _⟩ => show win0_2.index t (0 : Fin 2) * 2304 + 1 * (j 0).val = (j 0).val; omega
  | ⟨1, _⟩ => show win0_2.index t (1 : Fin 2) * 3584 + 1 * (j 1).val = (j 1).val; omega

theorem emb4 (t : Fin cfg0.N) (a : Fin 1) (b : Fin 4) (d : Fin 2304) :
    ((cfg0.win 4).blk t).view.emb (ix3 a b d : S1x4x2304.Idx) = (ix3 ⟨t.val, lt24 t⟩ b d : S24x4x2304.Idx) := by
  obtain ⟨e0, e1, e2⟩ := index4 t
  funext x; apply Fin.ext
  match x with
  | ⟨0, _⟩ => show win0_4.index t (0 : Fin 3) * 1 + 1 * a.val = t.val; have := a.isLt; omega
  | ⟨1, _⟩ => show win0_4.index t (1 : Fin 3) * 4 + 1 * b.val = b.val; omega
  | ⟨2, _⟩ => show win0_4.index t (2 : Fin 3) * 2304 + 1 * d.val = d.val; omega

/-- The blocks a point reads. -/
abbrev BX (t : Fin cfg0.N) : Spec.Mat 512 2304 := iblk m c 0 t
abbrev BD (t : Fin cfg0.N) : Spec.Mat 512 3584 := iblk m c 1 t

theorem BX_apply (t : Fin cfg0.N) (r : Fin 512) (b : Fin 2304) : BX m c t (ix2 r b) = MX m c (ix2 (row t r) b) :=
  congrArg (MX m c) (emb0 t r b)

theorem BD_apply (t : Fin cfg0.N) (r : Fin 512) (b : Fin 3584) : BD m c t (ix2 r b) = MD m c (ix2 (row t r) b) :=
  congrArg (MD m c) (emb1 t r b)

/-! ## What a point leaves in its windows -/

theorem after_3 (t : Fin cfg0.N) : (outsAt0 m c t.val t.isLt).2.1 = E3 (BX m c t) := by
  by_cases h0 : t.val % 24 = 0
  · have h := outA_3 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
    simp only [outsAt0_A m c t h0]
    rw [h]
  · have h := outB_3 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (outsAt0 m c (t.val - 1) (Nat.lt_of_le_of_lt (Nat.sub_le _ _) t.isLt)).1
    simp only [outsAt0_B m c t h0]
    rw [h]

theorem after_4 (t : Fin cfg0.N) : (outsAt0 m c t.val t.isLt).2.2.1 = E4 (BX m c t) := by
  by_cases h0 : t.val % 24 = 0
  · have h := outA_4 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
    simp only [outsAt0_A m c t h0]
    rw [h]
  · have h := outB_4 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (outsAt0 m c (t.val - 1) (Nat.lt_of_le_of_lt (Nat.sub_le _ _) t.isLt)).1
    simp only [outsAt0_B m c t h0]
    rw [h]

theorem after_5 (t : Fin cfg0.N) : (outsAt0 m c t.val t.isLt).2.2.2.1 = E5 (BD m c t) := by
  by_cases h0 : t.val % 24 = 0
  · have h := outA_5 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
    simp only [outsAt0_A m c t h0]
    rw [h]
  · have h := outB_5 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (outsAt0 m c (t.val - 1) (Nat.lt_of_le_of_lt (Nat.sub_le _ _) t.isLt)).1
    simp only [outsAt0_B m c t h0]
    rw [h]

theorem after_6 (t : Fin cfg0.N) : (outsAt0 m c t.val t.isLt).2.2.2.2 = E6 (BD m c t) := by
  by_cases h0 : t.val % 24 = 0
  · have h := outA_6 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
    simp only [outsAt0_A m c t h0]
    rw [h]
  · have h := outB_6 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (outsAt0 m c (t.val - 1) (Nat.lt_of_le_of_lt (Nat.sub_le _ _) t.isLt)).1
    simp only [outsAt0_B m c t h0]
    rw [h]

/-- The product a point adds, as a function of the point's number. -/
def prod (n : Nat) (y : S2304x3584.Idx) : EReal := if h : n < cfg0.N then P2 (BX m c ⟨n, h⟩) (BD m c ⟨n, h⟩) y else 0

theorem after_2_zero (t : Fin cfg0.N) (h0 : t.val % 24 = 0) (y : S2304x3584.Idx) : (outsAt0 m c t.val t.isLt).1 y = 0 + prod m c t.val y := by
  have h := outA_2 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
  simp only [outsAt0_A m c t h0]
  rw [h, prod, dif_pos t.isLt]

theorem after_2_succ (t : Fin cfg0.N) (h0 : ¬t.val % 24 = 0) (y : S2304x3584.Idx) :
    (outsAt0 m c t.val t.isLt).1 y = (outsAt0 m c (t.val - 1) (Nat.lt_of_le_of_lt (Nat.sub_le _ _) t.isLt)).1 y + prod m c t.val y := by
  have h := outB_2 (iblk m c 0 t) (iblk m c 1 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (outsAt0 m c (t.val - 1) (Nat.lt_of_le_of_lt (Nat.sub_le _ _) t.isLt)).1
  simp only [outsAt0_B m c t h0]
  rw [h, prod, dif_pos t.isLt]
  rfl

/-- The accumulator after point `n` is the sum of the products of the points up to it. -/
theorem after_2 : ∀ (n : Nat) (h : n < cfg0.N) (y : S2304x3584.Idx), (outsAt0 m c n h).1 y = ∑ k ∈ Finset.range (n + 1), prod m c k y
  | 0, h, y => by
    rw [show (outsAt0 m c 0 h).1 y = _ from after_2_zero m c ⟨0, h⟩ rfl y]
    simp
  | n + 1, h, y => by
    have hlt : n + 1 < 24 := lt_of_lt_of_eq h N_0
    rw [Finset.sum_range_succ, ← after_2 n (Nat.lt_of_succ_lt h) y]
    exact after_2_succ m c ⟨n + 1, h⟩ (by show ¬(n + 1) % 24 = 0; omega) y

/-- After the last point it is the whole contraction. -/
theorem after_2_last (t : Fin cfg0.N) (ht : t.val % 24 = 23) (y : S2304x3584.Idx) :
    (outsAt0 m c t.val t.isLt).1 y = Spec.res2 scaleK invK (MX m c) (MD m c) y := by
  have h23 : t.val + 1 = 24 := by have := lt24 t; omega
  rw [after_2, h23, Finset.sum_range]
  unfold Spec.res2 Spec.dw
  refine Eq.trans ?_ (Spec.sum_blocks 24 512 (fun r : Fin 12288 => Spec.deqX scaleK invK (by norm_num) (MX m c) r (y 0) * Spec.deqD scaleK invK (by norm_num) (MD m c) r (y 1))).symm
  refine Finset.sum_congr rfl fun k _ => ?_
  have hk : k.val < cfg0.N := lt_of_lt_of_eq k.isLt N_0.symm
  rw [prod, dif_pos hk]
  unfold P2 Spec.dw
  refine Finset.sum_congr rfl fun r _ => ?_
  exact congrArg₂ (· * ·)
    (Spec.deqX_block scaleK invK (by norm_num) _ (MX m c) (BX m c ⟨k.val, hk⟩) k.val (by have := k.isLt; omega) (fun r b => BX_apply m c ⟨k.val, hk⟩ r b) r (y 0))
    (Spec.deqD_block scaleK invK _ (MD m c) (BD m c ⟨k.val, hk⟩) r (row ⟨k.val, hk⟩ r) (fun b => BD_apply m c ⟨k.val, hk⟩ r b) (y 1))

/-! ## The arrays after the run -/

theorem final2 : (dats m 0 c).arrAt 2 cfg0.N = (Spec.res2 scaleK invK (MX m c) (MD m c) : S2304x3584.Idx → EReal) :=
  (dats m 0 c).arrAt_eq_of_cover 2 (Spec.res2 scaleK invK (MX m c) (MD m c) : S2304x3584.Idx → EReal)
    (fun t hf => by
      rw [flushed2]
      funext j
      refine (after_2_last m c t ((flush0_2 t).mp hf) j).trans ?_
      show _ = Spec.res2 scaleK invK (MX m c) (MD m c) (((cfg0.win 2).blk t).view.emb j)
      rw [emb2])
    (fun y => ⟨⟨23, lt_of_lt_of_eq (by norm_num) N_0.symm⟩, (flush0_2 _).mpr rfl, by
      have h := View.emb_mem_set ((cfg0.win 2).blk ⟨23, lt_of_lt_of_eq (by norm_num) N_0.symm⟩).view y
      rw [emb2] at h
      exact h⟩)

theorem final3 : (dats m 0 c).arrAt 3 cfg0.N = (Spec.res3 invK (MX m c) : S12288x2304.Idx → EReal) :=
  (dats m 0 c).arrAt_eq_of_cover 3 (Spec.res3 invK (MX m c) : S12288x2304.Idx → EReal)
    (fun t _ => by
      rw [flushed3, after_3]
      funext j
      show E3 (BX m c t) j = Spec.res3 invK (MX m c) (((cfg0.win 3).blk t).view.emb j)
      obtain ⟨r, b, rfl⟩ : ∃ (r : Fin 512) (b : Fin 2304), j = ix2 r b := ⟨j 0, j 1, eq_ix2 j⟩
      refine Eq.trans ?_ (congrArg (Spec.res3 invK (MX m c)) (emb3 t r b)).symm
      unfold E3 Spec.res3
      exact Spec.codeX_block invK _ (by norm_num) (MX m c) (BX m c t) t.val (by have := lt24 t; omega) (fun r b => BX_apply m c t r b) r b)
    (fun y => by
      have hy : (y 0).val < 12288 := (y 0).isLt
      obtain ⟨t, ht⟩ : ∃ t : Fin cfg0.N, t.val = (y 0).val / 512 := ⟨⟨(y 0).val / 512, lt_of_lt_of_eq (by omega) N_0.symm⟩, rfl⟩
      refine ⟨t, flush0_3 _, ?_⟩
      have he : (ix2 (row t ⟨(y 0).val % 512, by omega⟩) (y 1) : S12288x2304.Idx) = y := by
        refine Eq.trans ?_ (eq_ix2 y).symm
        exact congrArg (fun a => (ix2 a (y 1) : S12288x2304.Idx)) (Fin.ext (by show 512 * t.val + (y 0).val % 512 = (y 0).val; omega))
      have h := View.emb_mem_set ((cfg0.win 3).blk t).view (ix2 ⟨(y 0).val % 512, by omega⟩ (y 1) : S512x2304.Idx)
      exact Eq.mp (congrArg (· ∈ ((cfg0.win 3).blk t).view.set) ((emb3 t ⟨(y 0).val % 512, by omega⟩ (y 1)).trans he)) h)

theorem final5 : (dats m 0 c).arrAt 5 cfg0.N = (Spec.res5 invK (MD m c) : S12288x3584.Idx → EReal) :=
  (dats m 0 c).arrAt_eq_of_cover 5 (Spec.res5 invK (MD m c) : S12288x3584.Idx → EReal)
    (fun t _ => by
      rw [flushed5, after_5]
      funext j
      show E5 (BD m c t) j = Spec.res5 invK (MD m c) (((cfg0.win 5).blk t).view.emb j)
      obtain ⟨r, b, rfl⟩ : ∃ (r : Fin 512) (b : Fin 3584), j = ix2 r b := ⟨j 0, j 1, eq_ix2 j⟩
      refine Eq.trans ?_ (congrArg (Spec.res5 invK (MD m c)) (emb5 t r b)).symm
      unfold E5 Spec.res5
      exact Spec.codeD_block invK _ (MD m c) (BD m c t) r (row t r) (fun b => BD_apply m c t r b) b)
    (fun y => by
      have hy : (y 0).val < 12288 := (y 0).isLt
      obtain ⟨t, ht⟩ : ∃ t : Fin cfg0.N, t.val = (y 0).val / 512 := ⟨⟨(y 0).val / 512, lt_of_lt_of_eq (by omega) N_0.symm⟩, rfl⟩
      refine ⟨t, flush0_5 _, ?_⟩
      have he : (ix2 (row t ⟨(y 0).val % 512, by omega⟩) (y 1) : S12288x3584.Idx) = y := by
        refine Eq.trans ?_ (eq_ix2 y).symm
        exact congrArg (fun a => (ix2 a (y 1) : S12288x3584.Idx)) (Fin.ext (by show 512 * t.val + (y 0).val % 512 = (y 0).val; omega))
      have h := View.emb_mem_set ((cfg0.win 5).blk t).view (ix2 ⟨(y 0).val % 512, by omega⟩ (y 1) : S512x3584.Idx)
      exact Eq.mp (congrArg (· ∈ ((cfg0.win 5).blk t).view.set) ((emb5 t ⟨(y 0).val % 512, by omega⟩ (y 1)).trans he)) h)

theorem final6 : (dats m 0 c).arrAt 6 cfg0.N = (Spec.res6 scaleK (MD m c) : S12288x28.Idx → EReal) :=
  (dats m 0 c).arrAt_eq_of_cover 6 (Spec.res6 scaleK (MD m c) : S12288x28.Idx → EReal)
    (fun t _ => by
      rw [flushed6, after_6]
      funext j
      show E6 (BD m c t) j = Spec.res6 scaleK (MD m c) (((cfg0.win 6).blk t).view.emb j)
      obtain ⟨r, b, rfl⟩ : ∃ (r : Fin 512) (b : Fin 28), j = ix2 r b := ⟨j 0, j 1, eq_ix2 j⟩
      refine Eq.trans ?_ (congrArg (Spec.res6 scaleK (MD m c)) (emb6 t r b)).symm
      unfold E6 Spec.res6
      exact congrArg scaleK (Spec.tD_block _ (MD m c) (BD m c t) r (row t r) (fun b => BD_apply m c t r b) _))
    (fun y => by
      have hy : (y 0).val < 12288 := (y 0).isLt
      obtain ⟨t, ht⟩ : ∃ t : Fin cfg0.N, t.val = (y 0).val / 512 := ⟨⟨(y 0).val / 512, lt_of_lt_of_eq (by omega) N_0.symm⟩, rfl⟩
      refine ⟨t, flush0_6 _, ?_⟩
      have he : (ix2 (row t ⟨(y 0).val % 512, by omega⟩) (y 1) : S12288x28.Idx) = y := by
        refine Eq.trans ?_ (eq_ix2 y).symm
        exact congrArg (fun a => (ix2 a (y 1) : S12288x28.Idx)) (Fin.ext (by show 512 * t.val + (y 0).val % 512 = (y 0).val; omega))
      have h := View.emb_mem_set ((cfg0.win 6).blk t).view (ix2 ⟨(y 0).val % 512, by omega⟩ (y 1) : S512x28.Idx)
      exact Eq.mp (congrArg (· ∈ ((cfg0.win 6).blk t).view.set) ((emb6 t ⟨(y 0).val % 512, by omega⟩ (y 1)).trans he)) h)

theorem final4 : (dats m 0 c).arrAt 4 cfg0.N = (Spec.res4 scaleK (MX m c) : S24x4x2304.Idx → EReal) :=
  (dats m 0 c).arrAt_eq_of_cover 4 (Spec.res4 scaleK (MX m c) : S24x4x2304.Idx → EReal)
    (fun t _ => by
      rw [flushed4, after_4]
      funext j
      show E4 (BX m c t) j = Spec.res4 scaleK (MX m c) (((cfg0.win 4).blk t).view.emb j)
      obtain ⟨a, b, d, rfl⟩ : ∃ (a : Fin 1) (b : Fin 4) (d : Fin 2304), j = ix3 a b d := ⟨j 0, j 1, j 2, eq_ix3 j⟩
      refine Eq.trans ?_ (congrArg (Spec.res4 scaleK (MX m c)) (emb4 t a b d)).symm
      unfold E4 Spec.res4
      exact congrArg scaleK (Spec.tX_block (by norm_num) _ (MX m c) (BX m c t) t.val (by have := lt24 t; omega) (fun r b => BX_apply m c t r b) _ d))
    (fun y => by
      have hy : (y 0).val < 24 := (y 0).isLt
      obtain ⟨t, ht⟩ : ∃ t : Fin cfg0.N, t.val = (y 0).val := ⟨⟨(y 0).val, lt_of_lt_of_eq hy N_0.symm⟩, rfl⟩
      refine ⟨t, flush0_4 _, ?_⟩
      have he : (ix3 ⟨t.val, lt24 t⟩ (y 1) (y 2) : S24x4x2304.Idx) = y := by
        refine Eq.trans ?_ (eq_ix3 y).symm
        exact congrArg (fun a => (ix3 a (y 1) (y 2) : S24x4x2304.Idx)) (Fin.ext ht)
      have h := View.emb_mem_set ((cfg0.win 4).blk t).view (ix3 (0 : Fin 1) (y 1) (y 2) : S1x4x2304.Idx)
      exact Eq.mp (congrArg (· ∈ ((cfg0.win 4).blk t).view.set) ((emb4 t (0 : Fin 1) (y 1) (y 2)).trans he)) h)

end Cert.Arrays

end
-- ==== Proof.RefValues.lean ====
/-
  What the reference's payloads hold, index by index, at the extended reals: the results of `Spec` of the two arguments as matrices, at
  the scales `2 ^ e` and `2 ^ (-e)`.
-/
module

public import proofs.«01_k».proof.Proof.RefRun
public import proofs.«01_k».proof.Proof.Scale
public import proofs.«01_k».proof.Proof.Spec

@[expose] public section

set_option maxRecDepth 16384

noncomputable section

namespace Cert.RefValues

open Cert.ReferenceIdeal Cert.ReferenceIdeal.Gen Cert.RefRun Idealize.ShloMosaic Cert.Scale

variable (a0 : Vec Ideal S4x3072x2304 .bf16) (a1 : Vec Ideal S4x3072x3584 .bf16)

/-- The argument `x` with its leading axes merged … -/
abbrev X : Spec.Mat 12288 2304 := shapeCast (⟨2, ![12288, 2304]⟩ : Shape) a0 (by decide)
/-- … and `dy`. -/
abbrev D : Spec.Mat 12288 3584 := shapeCast (⟨2, ![12288, 3584]⟩ : Shape) a1 (by decide)

theorem pay2_apply (g : Fin 96) (k : Fin 128) (c : Fin 2304) :
    k0_pay2 (F := Ideal) a0 (ix3 g k c) = X a0 (ix2 ⟨128 * g.val + k.val, by have := g.isLt; have := k.isLt; omega⟩ c) := by
  pointwise [k0_pay2]
  have e0 : (⟨g.val / 24, by have := g.isLt; omega⟩ : Fin 4) = ⟨(128 * g.val + k.val) / 3072, by have := g.isLt; have := k.isLt; omega⟩ :=
    Fin.ext (by show g.val / 24 = (128 * g.val + k.val) / 3072; have := k.isLt; omega)
  have e1 : (⟨g.val % 24 * 128 + k.val, by have := k.isLt; omega⟩ : Fin 3072) = ⟨(128 * g.val + k.val) % 3072, by omega⟩ :=
    Fin.ext (by show g.val % 24 * 128 + k.val = (128 * g.val + k.val) % 3072; have := k.isLt; omega)
  exact congrArg₂ (fun a b => a0 (ix3 a b c)) e0 e1

theorem pay3_apply (r : Fin 12288) (h : Fin 28) (k : Fin 128) :
    k0_pay3 (F := Ideal) a1 (ix3 r h k) = D a1 (ix2 r ⟨128 * h.val + k.val, by have := h.isLt; have := k.isLt; omega⟩) := by
  pointwise [k0_pay3]
  exact congrArg (fun b => a1 (ix3 _ _ b)) (Fin.ext (by show h.val * 128 + k.val = 128 * h.val + k.val; omega))

/-! ## The quantiser, over vectors -/

/-- The largest value along the middle axis … -/
theorem max_mid {G K m : Nat} (v : FVec Ideal ⟨3, ![G, K, m]⟩ .bf16) (h : (⟨3, ![G, K, m]⟩ : Shape).Reduces [1] ⟨2, ![G, m]⟩) (g : Fin G) (c : Fin m) :
    multiReduction .maximumf [1] (⟨2, ![G, m]⟩ : Shape) v 0xFF80#16 h (.inr rfl) rfl (ix2 g c)
      = Finset.fold max (Ideal.ofBits .bf16 0xFF80#16) (fun k => v (ix3 g k c)) Finset.univ := by
  pointwise

/-- … and along the last. -/
theorem max_last {G K m : Nat} (v : FVec Ideal ⟨3, ![G, m, K]⟩ .bf16) (h : (⟨3, ![G, m, K]⟩ : Shape).Reduces [2] ⟨2, ![G, m]⟩) (g : Fin G) (c : Fin m) :
    multiReduction .maximumf [2] (⟨2, ![G, m]⟩ : Shape) v 0xFF80#16 h (.inr rfl) rfl (ix2 g c)
      = Finset.fold max (Ideal.ofBits .bf16 0xFF80#16) (fun k => v (ix3 g c k)) Finset.univ := by
  pointwise

section
variable {S : Shape}

/-- Maximum to scaled maximum. -/
def tV (v : FVec Ideal S .bf16) : FVec Ideal S .f32 := mulf (extf .f32 v bitsLt_bf16_f32) (broadcast S (Scalar.ofBits (F := Ideal) .f32 0x3B124925#32))

/-- The exponent of every scaled maximum. -/
def expoV (t : FVec Ideal S .f32) (c : Ideal .f32) : FVec Ideal S .f32 :=
  select (andi (cmpf .ogt t (broadcast S c)) (cmpf .olt t (broadcast S (Scalar.ofBits (F := Ideal) .f32 0x7F800000#32))))
    (addf (floor (divf (log t) (log (broadcast S (Scalar.ofBits (F := Ideal) .f32 0x40000000#32))))) (broadcast S (Scalar.ofBits (F := Ideal) .f32 0x3F800000#32)))
    (broadcast S (Scalar.ofBits (F := Ideal) .f32 0x00000000#32))

/-- The inverse scale of every exponent. -/
def invV (e : FVec Ideal S .f32) : FVec Ideal S .f32 := exp2 (subf (broadcast S (Scalar.ofBits (F := Ideal) .f32 0x00000000#32)) e)

/-- The codes, given every value's inverse scale. -/
def codeV (v : FVec Ideal S .bf16) (w : FVec Ideal S .f32) : FVec Ideal S .fp8e4m3 :=
  truncf .fp8e4m3 (minimumf (broadcast S (Scalar.ofBits (F := Ideal) .f32 0x43E00000#32)) (maximumf (broadcast S (Scalar.ofBits (F := Ideal) .f32 0xC3E00000#32)) (mulf (extf .f32 v bitsLt_bf16_f32) w))) bitsLt_fp8e4m3_f32

theorem expoV_apply (t : FVec Ideal S .f32) (j : S.Idx) : expoV t (Scalar.ofBits (F := Ideal) .f32 0x00000000#32) j = expo (t j) := rfl
theorem expV_apply (t : FVec Ideal S .f32) (j : S.Idx) : exp2 t j = Ideal.exp2 (t j) := rfl
theorem invV_apply (e : FVec Ideal S .f32) (j : S.Idx) : invV e j = Ideal.exp2 (Ideal.ofBits .f32 0x00000000#32 - e j) := rfl
theorem codeV_apply (v : FVec Ideal S .bf16) (w : FVec Ideal S .f32) (j : S.Idx) : codeV v w j = Spec.clip (v j * w j) := rfl
theorem tV_apply (v : FVec Ideal S .bf16) (j : S.Idx) : tV v j = v j * Ideal.ofBits .f32 0x3B124925#32 := rfl

end

/-! ## The scales and codes of `x` -/

/-- One value per group of rows, repeated over the group. -/
theorem spreadX {φ : FTy} (v : FVec Ideal S96x2304 φ) (g : Fin 96) (k : Fin 128) (c : Fin 2304) :
    broadcastTo S96x128x2304 (shapeCast S96x1x2304 v shapeCasts_S96x2304_S96x1x2304) broadcasts_S96x1x2304_S96x128x2304 (ix3 g k c) = v (ix2 g c) := by
  pointwise

/-- … and per group of columns. -/
theorem spreadD {φ : FTy} (v : FVec Ideal S12288x28 φ) (r : Fin 12288) (h : Fin 28) (k : Fin 128) :
    broadcastTo S12288x28x128 (shapeCast S12288x28x1 v shapeCasts_S12288x28_S12288x28x1) broadcasts_S12288x28x1_S12288x28x128 (ix3 r h k) = v (ix2 r h) := by
  pointwise

/-- The scaled maxima of `x`, as the reference's term. -/
abbrev txV : FVec Ideal S96x2304 .f32 :=
  tV (multiReduction .maximumf [1] S96x2304 (absf (k0_pay2 (F := Ideal) a0)) 0xFF80#16 reduces_S96x128x2304_S96x2304 (.inr rfl) rfl)

theorem txV_apply (g : Fin 96) (c : Fin 2304) : txV a0 (ix2 g c) = Spec.tOf fun k => k0_pay2 (F := Ideal) a0 (ix3 g k c) :=
  (tV_apply _ _).trans (congrArg (· * Ideal.ofBits .f32 0x3B124925#32) (max_mid _ _ g c))

abbrev tdV : FVec Ideal S12288x28 .f32 :=
  tV (multiReduction .maximumf [2] S12288x28 (absf (k0_pay3 (F := Ideal) a1)) 0xFF80#16 reduces_S12288x28x128_S12288x28 (.inr rfl) rfl)

theorem tdV_apply (r : Fin 12288) (h : Fin 28) : tdV a1 (ix2 r h) = Spec.tOf fun k => k0_pay3 (F := Ideal) a1 (ix3 r h k) :=
  (tV_apply _ _).trans (congrArg (· * Ideal.ofBits .f32 0x3B124925#32) (max_last _ _ r h))

theorem pay4_eq : k0_pay4 (F := Ideal) a0 = expoV (txV a0) (Scalar.ofBits (F := Ideal) .f32 0x00000000#32) := rfl
theorem pay5_eq : k0_pay5 (F := Ideal) a0 = exp2 (k0_pay4 (F := Ideal) a0) := rfl
theorem pay6_eq : k0_pay6 (F := Ideal) a0 = codeV (k0_pay2 (F := Ideal) a0)
    (broadcastTo S96x128x2304 (shapeCast S96x1x2304 (invV (k0_pay4 (F := Ideal) a0)) shapeCasts_S96x2304_S96x1x2304) broadcasts_S96x1x2304_S96x128x2304) := rfl
theorem pay7_eq : k0_pay7 (F := Ideal) a1 = tdV a1 := rfl
theorem pay8_eq (t : FVec Ideal S12288x28 .f32) (c : Ideal .f32) : k0_pay8 (F := Ideal) t c = expoV t c := rfl
theorem pay9_eq (t : FVec Ideal S12288x28 .f32) (c : Ideal .f32) : k0_pay9 (F := Ideal) t c = exp2 (k0_pay8 (F := Ideal) t c) := rfl
theorem pay10_eq (v : FVec Ideal S12288x28x128 .bf16) (t : FVec Ideal S12288x28 .f32) (c : Ideal .f32) :
    k0_pay10 (F := Ideal) v t c = codeV v
      (broadcastTo S12288x28x128 (shapeCast S12288x28x1 (invV (k0_pay8 (F := Ideal) t c)) shapeCasts_S12288x28_S12288x28x1) broadcasts_S12288x28x1_S12288x28x128) := rfl

/-- The scaled maximum of group `g` of `x` in column `c` is that of any row in the group. -/
theorem txV_spec (g : Fin 96) (c : Fin 2304) (r : Fin 12288) (hr : r.val / 128 = g.val) : txV a0 (ix2 g c) = Spec.tX (by norm_num) (X a0) r c := by
  rw [txV_apply]
  refine congrArg Spec.tOf (funext fun k => ?_)
  rw [pay2_apply]
  exact congrArg (fun q => X a0 (ix2 q c)) (Fin.ext (by show 128 * g.val + k.val = 128 * (r.val / 128) + k.val; rw [hr]))

theorem tdV_spec (r : Fin 12288) (h : Fin 28) (c : Fin 3584) (hc : c.val / 128 = h.val) : tdV a1 (ix2 r h) = Spec.tD (by norm_num) (D a1) r c := by
  rw [tdV_apply]
  refine congrArg Spec.tOf (funext fun k => ?_)
  rw [pay3_apply]
  exact congrArg (fun q => D a1 (ix2 r q)) (Fin.ext (by show 128 * h.val + k.val = 128 * (c.val / 128) + k.val; rw [hc]))

/-- The exponents are `expo` of the scaled maxima. -/
theorem pay4_apply (g : Fin 96) (c : Fin 2304) (r : Fin 12288) (hr : r.val / 128 = g.val) :
    k0_pay4 (F := Ideal) a0 (ix2 g c) = expo (Spec.tX (by norm_num) (X a0) r c) := by
  rw [pay4_eq, expoV_apply, txV_spec a0 g c r hr]

theorem pay5_apply (g : Fin 96) (c : Fin 2304) (r : Fin 12288) (hr : r.val / 128 = g.val) :
    k0_pay5 (F := Ideal) a0 (ix2 g c) = scaleR (Spec.tX (by norm_num) (X a0) r c) := by
  rw [pay5_eq, expV_apply, pay4_apply a0 g c r hr]
  rfl

theorem pay6_apply (g : Fin 96) (k : Fin 128) (c : Fin 2304) (r : Fin 12288) (hr : r.val = 128 * g.val + k.val) :
    k0_pay6 (F := Ideal) a0 (ix3 g k c) = Spec.codeX invR (by norm_num) (X a0) r c := by
  rw [pay6_eq, codeV_apply, spreadX, invV_apply, pay4_apply a0 g c r (by have := k.isLt; omega), pay2_apply]
  unfold Spec.codeX invR
  exact congrArg (fun q => Spec.clip (X a0 (ix2 q c) * _)) (Fin.ext hr.symm)

theorem pay8_apply (r : Fin 12288) (h : Fin 28) (c : Fin 3584) (hc : c.val / 128 = h.val) :
    k0_pay8 (F := Ideal) (k0_pay7 (F := Ideal) a1) (Scalar.ofBits .f32 0x00000000#32) (ix2 r h) = expo (Spec.tD (by norm_num) (D a1) r c) := by
  rw [pay8_eq, expoV_apply, pay7_eq, tdV_spec a1 r h c hc]

theorem pay9_apply (r : Fin 12288) (h : Fin 28) (c : Fin 3584) (hc : c.val / 128 = h.val) :
    k0_pay9 (F := Ideal) (k0_pay7 (F := Ideal) a1) (Scalar.ofBits .f32 0x00000000#32) (ix2 r h) = scaleR (Spec.tD (by norm_num) (D a1) r c) := by
  rw [pay9_eq, expV_apply, pay8_apply a1 r h c hc]
  rfl

theorem pay10_apply (r : Fin 12288) (h : Fin 28) (k : Fin 128) (c : Fin 3584) (hc : c.val = 128 * h.val + k.val) :
    k0_pay10 (F := Ideal) (k0_pay3 (F := Ideal) a1) (k0_pay7 (F := Ideal) a1) (Scalar.ofBits .f32 0x00000000#32) (ix3 r h k)
      = Spec.codeD invR (by norm_num) (D a1) r c := by
  rw [pay10_eq, codeV_apply, spreadD, invV_apply, pay8_apply a1 r h c (by have := k.isLt; omega), pay3_apply]
  unfold Spec.codeD invR
  exact congrArg (fun q => Spec.clip (D a1 (ix2 r q) * _)) (Fin.ext hc.symm)

/-! ## The dequantised matrices and their product -/

/-- The reference's dequantised `x` … -/
abbrev dqX : FVec Ideal S96x128x2304 .bf16 :=
  mulf (extf .bf16 (k0_pay6 (F := Ideal) a0) bitsLt_fp8e4m3_bf16)
    (broadcastTo S96x128x2304 (shapeCast S96x1x2304 (truncf .bf16 (k0_pay5 (F := Ideal) a0) bitsLt_bf16_f32) shapeCasts_S96x2304_S96x1x2304) broadcasts_S96x1x2304_S96x128x2304)
/-- … and `dy`. -/
abbrev dqD : FVec Ideal S12288x28x128 .bf16 :=
  mulf (extf .bf16 (k0_pay10 (F := Ideal) (k0_pay3 (F := Ideal) a1) (k0_pay7 (F := Ideal) a1) (Scalar.ofBits .f32 0x00000000#32)) bitsLt_fp8e4m3_bf16)
    (broadcastTo S12288x28x128 (shapeCast S12288x28x1 (truncf .bf16 (k0_pay9 (F := Ideal) (k0_pay7 (F := Ideal) a1) (Scalar.ofBits .f32 0x00000000#32)) bitsLt_bf16_f32) shapeCasts_S12288x28_S12288x28x1) broadcasts_S12288x28x1_S12288x28x128)

theorem mulV_apply {S : Shape} (v w : FVec Ideal S .bf16) (j : S.Idx) : mulf v w j = v j * w j := rfl
theorem extV_apply {S : Shape} (v : FVec Ideal S .fp8e4m3) (j : S.Idx) : extf .bf16 v bitsLt_fp8e4m3_bf16 j = v j := rfl
theorem truncV_apply {S : Shape} (v : FVec Ideal S .f32) (j : S.Idx) : truncf .bf16 v bitsLt_bf16_f32 j = v j := rfl

theorem dqX_apply (g : Fin 96) (k : Fin 128) (c : Fin 2304) (r : Fin 12288) (hr : r.val = 128 * g.val + k.val) :
    dqX a0 (ix3 g k c) = Spec.deqX scaleR invR (by norm_num) (X a0) r c := by
  unfold dqX
  rw [mulV_apply, extV_apply, spreadX, truncV_apply, pay6_apply a0 g k c r hr, pay5_apply a0 g c r (by have := k.isLt; omega)]
  rfl

theorem dqD_apply (r : Fin 12288) (h : Fin 28) (k : Fin 128) (c : Fin 3584) (hc : c.val = 128 * h.val + k.val) :
    dqD a1 (ix3 r h k) = Spec.deqD scaleR invR (by norm_num) (D a1) r c := by
  unfold dqD
  rw [mulV_apply, extV_apply, spreadD, truncV_apply, pay10_apply a1 r h k c hc, pay9_apply a1 r h c (by have := k.isLt; omega)]
  rfl

/-- Groups of rows laid end to end … -/
theorem flatX {φ : FTy} (v : FVec Ideal S96x128x2304 φ) (r : Fin 12288) (c : Fin 2304) :
    shapeCast S12288x2304 v shapeCasts_S96x128x2304_S12288x2304 (ix2 r c)
      = v (ix3 ⟨r.val / 128, by have := r.isLt; omega⟩ ⟨r.val % 128, by omega⟩ c) := by
  pointwise

/-- … and groups of columns. -/
theorem flatD {φ : FTy} (v : FVec Ideal S12288x28x128 φ) (r : Fin 12288) (c : Fin 3584) :
    shapeCast S12288x3584 v shapeCasts_S12288x28x128_S12288x3584 (ix2 r c)
      = v (ix3 r ⟨c.val / 128, by have := c.isLt; omega⟩ ⟨c.val % 128, by omega⟩) := by
  pointwise

theorem flatS (v : FVec Ideal S96x2304 .f32) (p : Fin 24) (q : Fin 4) (c : Fin 2304) :
    shapeCast S24x4x2304 v shapeCasts_S96x2304_S24x4x2304 (ix3 p q c) = v (ix2 ⟨p.val * 4 + q.val, by have := p.isLt; have := q.isLt; omega⟩ c) := by
  pointwise

theorem pay11_eq : k0_pay11 (F := Ideal) (k0_pay3 (F := Ideal) a1) (k0_pay5 (F := Ideal) a0) (k0_pay6 (F := Ideal) a0) (k0_pay7 (F := Ideal) a1) (Scalar.ofBits .f32 0x00000000#32)
    = matmul dot_S12288x2304_S12288x3584_S2304x3584_0_0_1_1_n_n none
        (shapeCast S12288x2304 (dqX a0) shapeCasts_S96x128x2304_S12288x2304) (shapeCast S12288x3584 (dqD a1) shapeCasts_S12288x28x128_S12288x3584)
        (constant S2304x3584 .f32 0x00000000#32) := rfl

theorem dot_apply (v : FVec Ideal S12288x2304 .bf16) (w : FVec Ideal S12288x3584 .bf16) (a : Fin 2304) (b : Fin 3584) :
    matmul dot_S12288x2304_S12288x3584_S2304x3584_0_0_1_1_n_n none v w (constant S2304x3584 .f32 0x00000000#32) (ix2 a b)
      = ∑ r : Fin 12288, v (ix2 r a) * w (ix2 r b) := by
  pointwise [dot_S12288x2304_S12288x3584_S2304x3584_0_0_1_1_n_n]

/-! ## The results -/

theorem pay14_eq : k0_pay14 (F := Ideal) a0 a1 = k0_pay3 (F := Ideal) a1 := by
  unfold k0_pay14
  rw [View.ld_unit_zero hz1]

theorem pay15_eq : k0_pay15 (F := Ideal) a0 a1 = k0_pay5 (F := Ideal) a0 := by
  unfold k0_pay15
  rw [View.ld_unit_zero hz0]

theorem pay16_eq : k0_pay16 (F := Ideal) a0 a1 = k0_pay6 (F := Ideal) a0 := by
  unfold k0_pay16
  rw [View.ld_unit_zero hz0]

theorem pay17_eq : k0_pay17 (F := Ideal) a0 a1 = k0_pay7 (F := Ideal) a1 := by
  unfold k0_pay17
  rw [View.ld_unit_zero hz1]

/-- The reference's weight gradient … -/
theorem G2_eq : G2 (F := Ideal) a0 a1 = Spec.res2 scaleR invR (X a0) (D a1) := by
  unfold G2
  rw [pay14_eq, pay15_eq, pay16_eq, pay17_eq, pay11_eq]
  funext y
  obtain ⟨a, b, rfl⟩ : ∃ (a : Fin 2304) (b : Fin 3584), y = ix2 a b := ⟨y 0, y 1, eq_ix2 y⟩
  refine (dot_apply _ _ a b).trans ?_
  show _ = ∑ r : Fin 12288, Spec.deqX scaleR invR (by norm_num) (X a0) r a * Spec.deqD scaleR invR (by norm_num) (D a1) r b
  refine Finset.sum_congr rfl fun r _ => ?_
  rw [flatX, flatD, dqX_apply a0 _ _ a r (by show r.val = 128 * (r.val / 128) + r.val % 128; omega),
    dqD_apply a1 r _ _ b (by show b.val = 128 * (b.val / 128) + b.val % 128; omega)]

/-- … its codes of `x` … -/
theorem G3_eq : G3 (F := Ideal) a0 a1 = Spec.res3 invR (X a0) := by
  unfold G3
  rw [pay16_eq]
  funext y
  obtain ⟨r, c, rfl⟩ : ∃ (r : Fin 12288) (c : Fin 2304), y = ix2 r c := ⟨y 0, y 1, eq_ix2 y⟩
  exact (flatX _ r c).trans (pay6_apply a0 _ _ c r (by show r.val = 128 * (r.val / 128) + r.val % 128; omega))

/-- … its scales of `x` … -/
theorem G4_eq : G4 (F := Ideal) a0 a1 = Spec.res4 scaleR (X a0) := by
  unfold G4
  rw [pay15_eq]
  funext y
  obtain ⟨p, q, c, rfl⟩ : ∃ (p : Fin 24) (q : Fin 4) (c : Fin 2304), y = ix3 p q c := ⟨y 0, y 1, y 2, eq_ix3 y⟩
  exact (flatS _ p q c).trans (pay5_apply a0 _ c ⟨512 * p.val + 128 * q.val, by have := p.isLt; have := q.isLt; omega⟩
    (by show (512 * p.val + 128 * q.val) / 128 = p.val * 4 + q.val; omega))

/-- … its codes of `dy` … -/
theorem G5_eq : G5 (F := Ideal) a0 a1 = Spec.res5 invR (D a1) := by
  unfold G5
  rw [pay14_eq, pay17_eq]
  funext y
  obtain ⟨r, c, rfl⟩ : ∃ (r : Fin 12288) (c : Fin 3584), y = ix2 r c := ⟨y 0, y 1, eq_ix2 y⟩
  exact (flatD _ r c).trans (pay10_apply a1 r _ _ c (by show c.val = 128 * (c.val / 128) + c.val % 128; omega))

/-- … and its scales of `dy`. -/
theorem G6_eq : G6 (F := Ideal) a0 a1 = Spec.res6 scaleR (D a1) := by
  unfold G6
  rw [pay17_eq]
  funext y
  obtain ⟨r, h, rfl⟩ : ∃ (r : Fin 12288) (h : Fin 28), y = ix2 r h := ⟨y 0, y 1, eq_ix2 y⟩
  exact pay9_apply a1 r h ⟨128 * h.val, by have := h.isLt; omega⟩ (by show 128 * h.val / 128 = h.val; omega)

end Cert.RefValues

end
-- ==== Proof.Range.lean ====
/-
  What the precondition gives: when the scaled maximum of every group is admissible (`Scale.Good`), the results at the bisected scales are
  the results at the powers of two.
-/
module

public import proofs.«01_k».proof.Proof.Scale
public import proofs.«01_k».proof.Proof.Spec

@[expose] public section

set_option maxRecDepth 16384

noncomputable section

namespace Cert.Range

open Idealize.ShloMosaic Cert.Scale

theorem dvd_rows : 128 ∣ 12288 := by norm_num
theorem dvd_cols : 128 ∣ 3584 := by norm_num

/-- Every group of 128 rows has an admissible scaled maximum … -/
def GoodX {n m : Nat} (hn : 128 ∣ n) (A : Spec.Mat n m) : Prop := ∀ r c, Good (Spec.tX hn A r c)
/-- … and every group of 128 columns. -/
def GoodD {n m : Nat} (hm : 128 ∣ m) (A : Spec.Mat n m) : Prop := ∀ r c, Good (Spec.tD hm A r c)

/-! ## The results at the two pairs of scales -/

section
variable {n m : Nat}

theorem codeX_eq (hn : 128 ∣ n) (A : Spec.Mat n m) (h : GoodX hn A) (r : Fin n) (c : Fin m) :
    Spec.codeX invK hn A r c = Spec.codeX invR hn A r c := by
  unfold Spec.codeX
  rw [(both_eq (h r c)).2]

theorem codeD_eq (hm : 128 ∣ m) (A : Spec.Mat n m) (h : GoodD hm A) (r : Fin n) (c : Fin m) :
    Spec.codeD invK hm A r c = Spec.codeD invR hm A r c := by
  unfold Spec.codeD
  rw [(both_eq (h r c)).2]

theorem deqX_eq (hn : 128 ∣ n) (A : Spec.Mat n m) (h : GoodX hn A) (r : Fin n) (c : Fin m) :
    Spec.deqX scaleK invK hn A r c = Spec.deqX scaleR invR hn A r c := by
  unfold Spec.deqX
  rw [codeX_eq hn A h, (both_eq (h r c)).1]

theorem deqD_eq (hm : 128 ∣ m) (A : Spec.Mat n m) (h : GoodD hm A) (r : Fin n) (c : Fin m) :
    Spec.deqD scaleK invK hm A r c = Spec.deqD scaleR invR hm A r c := by
  unfold Spec.deqD
  rw [codeD_eq hm A h, (both_eq (h r c)).1]

end

variable (X : Spec.Mat 12288 2304) (D : Spec.Mat 12288 3584) (hX : GoodX dvd_rows X) (hD : GoodD dvd_cols D)

include hX hD in
/-- The weight gradient is the same at the bisected scales and at the powers of two … -/
theorem res2_eq : Spec.res2 scaleK invK X D = Spec.res2 scaleR invR X D := by
  funext y
  unfold Spec.res2 Spec.dw
  exact Finset.sum_congr rfl fun r _ => congrArg₂ (· * ·) (deqX_eq _ X hX r _) (deqD_eq _ D hD r _)

include hX in
/-- … and so are the codes of `x` … -/
theorem res3_eq : Spec.res3 invK X = Spec.res3 invR X := funext fun _ => codeX_eq _ X hX _ _

include hX in
/-- … the scales of `x` … -/
theorem res4_eq : Spec.res4 scaleK X = Spec.res4 scaleR X := funext fun _ => (both_eq (hX _ _)).1

include hD in
/-- … the codes of `dy` … -/
theorem res5_eq : Spec.res5 invK D = Spec.res5 invR D := funext fun _ => codeD_eq _ D hD _ _

include hD in
/-- … and the scales of `dy`. -/
theorem res6_eq : Spec.res6 scaleK D = Spec.res6 scaleR D := funext fun _ => (both_eq (hD _ _)).1

end Cert.Range

end
-- ==== Proof.Equation.lean ====
/-
  The equation: on arguments in range the kernel's five arrays are the reference's five functions of the arguments.
-/
module

public import proofs.«01_k».proof.Proof.Arrays
public import proofs.«01_k».proof.Proof.RefValues
public import proofs.«01_k».proof.Proof.Range
public import proofs.«01_k».proof.Proof.Gen.Pre_in_range

@[expose] public section

set_option maxRecDepth 16384

noncomputable section

namespace Cert.Equation

open Idealize.ShloMosaic Idealize.ShloMosaic.TcCoe Idealize.SL.Sem Cert.KernelIdeal Cert.KernelIdeal.Gen Cert.Scale

/-! ## The precondition -/

/-- The comparisons the precondition makes of one scaled maximum. -/
theorem good_of_word (t : EReal)
    (h : IntOp.ori (IntOp.ori (Ideal.cmp .oeq t (Ideal.ofBits .f32 0x00000000#32)) (Ideal.cmp .oeq t (Ideal.ofBits .f32 0x7F800000#32)))
      (IntOp.andi (Ideal.cmp .oge t (Ideal.ofBits .f32 0x00800000#32)) (Ideal.cmp .olt t (Ideal.ofBits .f32 0x7E800000#32))) = 1#1) :
    Good t := by
  by_contra hn
  unfold Good at hn
  rw [not_or, not_or, not_and_or] at hn
  obtain ⟨h1, h2, h3⟩ := hn
  rw [Ideal.ofBits_zero_f32, ofBits_inf] at h
  rcases h3 with h3 | h3 <;> simp [IntOp.ori, IntOp.andi, Ideal.cmp, h1, h2, h3] at h

/-- The comparisons over a vector of maxima. -/
def okV {S : Shape} (hb : Pre_in_range.S_.BroadcastsInDim S (![] : Fin 0 → Fin S.rank)) (a : FVec Ideal S .bf16) : IVec S 1 :=
  let k (b : BitVec 32) : FVec Ideal S .f32 := broadcastInDim S ![] hb (constant (F := Ideal) Pre_in_range.S_ .f32 b)
  let t : FVec Ideal S .f32 := mulf (extf .f32 a Pre_in_range.Facts.bitsLt_bf16_f32) (k 0x3B124925#32)
  ori (ori (cmpf .oeq t (k 0x00000000#32)) (cmpf .oeq t (k 0x7F800000#32))) (andi (cmpf .oge t (k 0x00800000#32)) (cmpf .olt t (k 0x7E800000#32)))

theorem good_of_okV {S : Shape} (hb : Pre_in_range.S_.BroadcastsInDim S (![] : Fin 0 → Fin S.rank)) (a : FVec Ideal S .bf16) (j : S.Idx)
    (h : okV hb a j = 1#1) : Good (a j * Ideal.ofBits .f32 0x3B124925#32) :=
  good_of_word _ h

/-- The group maxima of `x` the precondition takes … -/
abbrev maxX (a : Vec Ideal S4x3072x2304 .bf16) : FVec Ideal Pre_in_range.S96x2304 .bf16 :=
  Host.reduce FloatOps.maximumf (shapeCast Pre_in_range.S96x128x2304 (Host.absf (F := Ideal) (φ := .bf16) a) Pre_in_range.Facts.shapeCasts_S4x3072x2304_S96x128x2304)
    (constant (F := Ideal) Pre_in_range.S_ .bf16 0xFF80#16) Pre_in_range.Facts.reducesTo_S96x128x2304_S96x2304_d1 Pre_in_range.Facts.h_S_
/-- … and of `dy`. -/
abbrev maxD (a : Vec Ideal S4x3072x3584 .bf16) : FVec Ideal Pre_in_range.S12288x28 .bf16 :=
  Host.reduce FloatOps.maximumf (shapeCast Pre_in_range.S12288x28x128 (Host.absf (F := Ideal) (φ := .bf16) a) Pre_in_range.Facts.shapeCasts_S4x3072x3584_S12288x28x128)
    (constant (F := Ideal) Pre_in_range.S_ .bf16 0xFF80#16) Pre_in_range.Facts.reducesTo_S12288x28x128_S12288x28_d2 Pre_in_range.Facts.h_S_

theorem pre_eq (a : Vec Ideal S4x3072x2304 .bf16) (b : Vec Ideal S4x3072x3584 .bf16) :
    Cert.Pre_in_range.fn (F := Ideal) a b = (okV Pre_in_range.Facts.bcast_S_S96x2304 (maxX a), okV Pre_in_range.Facts.bcast_S_S12288x28 (maxD b)) := rfl

/-- The largest value along the middle axis … -/
theorem max_mid {G K m : Nat} (v : FVec Ideal ⟨3, ![G, K, m]⟩ .bf16) (h : (⟨3, ![G, K, m]⟩ : Shape).ReducesTo [1] ⟨2, ![G, m]⟩)
    (h0 : 0 < Pre_in_range.S_.numel) (g : Fin G) (c : Fin m) :
    Host.reduce FloatOps.maximumf v (constant (F := Ideal) Pre_in_range.S_ .bf16 0xFF80#16) h h0 (ix2 g c)
      = Finset.fold max (Ideal.ofBits .bf16 0xFF80#16) (fun k => v (ix3 g k c)) Finset.univ := by
  pointwise

/-- … and along the last. -/
theorem max_last {G K m : Nat} (v : FVec Ideal ⟨3, ![G, m, K]⟩ .bf16) (h : (⟨3, ![G, m, K]⟩ : Shape).ReducesTo [2] ⟨2, ![G, m]⟩)
    (h0 : 0 < Pre_in_range.S_.numel) (g : Fin G) (c : Fin m) :
    Host.reduce FloatOps.maximumf v (constant (F := Ideal) Pre_in_range.S_ .bf16 0xFF80#16) h h0 (ix2 g c)
      = Finset.fold max (Ideal.ofBits .bf16 0xFF80#16) (fun k => v (ix3 g c k)) Finset.univ := by
  pointwise

/-- The absolute values of `x` in groups of rows … -/
theorem absX (a : Vec Ideal S4x3072x2304 .bf16) (g : Fin 96) (k : Fin 128) (c : Fin 2304) :
    shapeCast Pre_in_range.S96x128x2304 (Host.absf (F := Ideal) a) Pre_in_range.Facts.shapeCasts_S4x3072x2304_S96x128x2304 (ix3 g k c)
      = max (ReferenceIdeal.Gen.k0_pay2 (F := Ideal) a (ix3 g k c)) (-(ReferenceIdeal.Gen.k0_pay2 (F := Ideal) a (ix3 g k c))) := by
  pointwise [ReferenceIdeal.Gen.k0_pay2]
  rfl

/-- … and of `dy` in groups of columns. -/
theorem absD (a : Vec Ideal S4x3072x3584 .bf16) (r : Fin 12288) (h : Fin 28) (k : Fin 128) :
    shapeCast Pre_in_range.S12288x28x128 (Host.absf (F := Ideal) a) Pre_in_range.Facts.shapeCasts_S4x3072x3584_S12288x28x128 (ix3 r h k)
      = max (ReferenceIdeal.Gen.k0_pay3 (F := Ideal) a (ix3 r h k)) (-(ReferenceIdeal.Gen.k0_pay3 (F := Ideal) a (ix3 r h k))) := by
  pointwise [ReferenceIdeal.Gen.k0_pay3]
  rfl

variable (m : (ℓ : Loc nD τ sig) → Buf (Elt Ideal) ℓ) (c : Dev nD)

/-- The two arguments as launched. -/
abbrev A0 : Vec Ideal S4x3072x2304 .bf16 := m ((c.tc : Thread nD τ).loc main_arg0)
abbrev A1 : Vec Ideal S4x3072x3584 .bf16 := m ((c.tc : Thread nD τ).loc main_arg1)

/-- The precondition, group by group: the reference's scaled maxima are admissible. -/
theorem good0 (h : (Cert.Pre_in_range.fn (F := Ideal) (A0 m c) (A1 m c)).1 = fun _ => 1#1) (g : Fin 96) (k : Fin 2304) :
    Good (RefValues.txV (A0 m c) (ix2 g k)) := by
  have e : maxX (A0 m c) (ix2 g k) * Ideal.ofBits .f32 0x3B124925#32 = RefValues.txV (A0 m c) (ix2 g k) := by
    rw [RefValues.txV_apply]
    unfold Spec.tOf
    refine congrArg (· * Ideal.ofBits .f32 0x3B124925#32) ((max_mid _ _ _ g k).trans ?_)
    exact congrArg (fun f => Finset.fold max (Ideal.ofBits .bf16 0xFF80#16) f Finset.univ) (funext fun i => absX _ g i k)
  rw [← e]
  rw [pre_eq] at h
  exact good_of_okV _ _ _ (congrFun h (ix2 g k))

theorem good1 (h : (Cert.Pre_in_range.fn (F := Ideal) (A0 m c) (A1 m c)).2 = fun _ => 1#1) (r : Fin 12288) (k : Fin 28) :
    Good (RefValues.tdV (A1 m c) (ix2 r k)) := by
  have e : maxD (A1 m c) (ix2 r k) * Ideal.ofBits .f32 0x3B124925#32 = RefValues.tdV (A1 m c) (ix2 r k) := by
    rw [RefValues.tdV_apply]
    unfold Spec.tOf
    refine congrArg (· * Ideal.ofBits .f32 0x3B124925#32) ((max_last _ _ _ r k).trans ?_)
    exact congrArg (fun f => Finset.fold max (Ideal.ofBits .bf16 0xFF80#16) f Finset.univ) (funext fun i => absD _ r k i)
  rw [← e]
  rw [pre_eq] at h
  exact good_of_okV _ _ _ (congrFun h (ix2 r k))

/-! ## The five results -/

/-- The matrices the kernel reads are the reference's. -/
theorem MX_eq : Arrays.MX m c = RefValues.X (A0 m c) := Arrays.MX_eq m c
theorem MD_eq : Arrays.MD m c = RefValues.D (A1 m c) := Arrays.MD_eq m c

variable (h : (Cert.Pre_in_range.fn (F := Ideal) (A0 m c) (A1 m c)).1 = (fun _ => 1#1) ∧ (Cert.Pre_in_range.fn (F := Ideal) (A0 m c) (A1 m c)).2 = fun _ => 1#1)

include h

theorem inX : Range.GoodX Range.dvd_rows (RefValues.X (A0 m c)) := fun r k => by
  rw [← RefValues.txV_spec (A0 m c) ⟨r.val / 128, by have := r.isLt; omega⟩ k r rfl]
  exact good0 m c h.1 _ _

theorem inD : Range.GoodD Range.dvd_cols (RefValues.D (A1 m c)) := fun r k => by
  rw [← RefValues.tdV_spec (A1 m c) r ⟨k.val / 128, by have := k.isLt; omega⟩ k rfl]
  exact good1 m c h.2 _ _

/-- Result 1, the weight gradient: the kernel's array is the reference's … -/
theorem out2 : (dats m 0 c).arrAt 2 cfg0.N = RefRun.G2 (F := Ideal) (A0 m c) (A1 m c) := by
  rw [Arrays.final2, MX_eq, MD_eq, Range.res2_eq _ _ (inX m c h) (inD m c h)]
  exact (RefValues.G2_eq _ _).symm

/-- … result 2, the codes of `x` … -/
theorem out3 : (dats m 0 c).arrAt 3 cfg0.N = RefRun.G3 (F := Ideal) (A0 m c) (A1 m c) := by
  rw [Arrays.final3, MX_eq, Range.res3_eq _ (inX m c h)]
  exact (RefValues.G3_eq _ _).symm

/-- … result 3, the scales of `x` … -/
theorem out4 : (dats m 0 c).arrAt 4 cfg0.N = RefRun.G4 (F := Ideal) (A0 m c) (A1 m c) := by
  rw [Arrays.final4, MX_eq, Range.res4_eq _ (inX m c h)]
  exact (RefValues.G4_eq _ _).symm

/-- … result 4, the codes of `dy` … -/
theorem out5 : (dats m 0 c).arrAt 5 cfg0.N = RefRun.G5 (F := Ideal) (A0 m c) (A1 m c) := by
  rw [Arrays.final5, MD_eq, Range.res5_eq _ (inD m c h)]
  exact (RefValues.G5_eq _ _).symm

/-- … and result 5, the scales of `dy`. -/
theorem out6 : (dats m 0 c).arrAt 6 cfg0.N = RefRun.G6 (F := Ideal) (A0 m c) (A1 m c) := by
  rw [Arrays.final6, MD_eq, Range.res6_eq _ (inD m c h)]
  exact (RefValues.G6_eq _ _).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.RefRun
public import proofs.«01_k».proof.Proof.Equation
public import proofs.«01_k».proof.Proof.Gen.Pre_in_range
public import Idealize.ShloMosaic.Adequacy
public import Idealize.ShloMosaic.Init

@[expose] public section

noncomputable section

namespace Cert.Proof

open Idealize.ShloMosaic Idealize.SL.Sem

/-- From memories that agree on arguments in range, the kernel and the reference both run, end with the same five results, and keep
    their arguments. -/
theorem algebraic : Cert.algebraic_KernelIdeal_ReferenceIdeal_pre_in_range := by
  intro m g m' g' hpre hagree
  refine ⟨fun c => RefRun.G2 (F := Ideal) (Equation.A0 m c) (Equation.A1 m c), fun c => RefRun.G3 (F := Ideal) (Equation.A0 m c) (Equation.A1 m c),
    fun c => RefRun.G4 (F := Ideal) (Equation.A0 m c) (Equation.A1 m c), fun c => RefRun.G5 (F := Ideal) (Equation.A0 m c) (Equation.A1 m c),
    fun c => RefRun.G6 (F := Ideal) (Equation.A0 m c) (Equation.A1 m c), ?_, ?_⟩
  · refine (Cert.KernelIdeal.Value.run_blocks m g).mono ?_
    intro r hr c
    obtain ⟨h2, h3, h4, h5, h6, k0, k1⟩ := hr c
    exact ⟨h2.trans (Equation.out2 m c (hpre c)), h3.trans (Equation.out3 m c (hpre c)), h4.trans (Equation.out4 m c (hpre c)),
      h5.trans (Equation.out5 m c (hpre c)), h6.trans (Equation.out6 m c (hpre c)), k0, k1⟩
  · refine (Cert.RefRun.run m' g').mono ?_
    intro r hr c
    obtain ⟨h2, h3, h4, h5, h6, k0, k1⟩ := hr c
    obtain ⟨e0, e1⟩ := hagree c
    exact ⟨h2.trans (congrArg₂ (RefRun.G2 (F := Ideal)) e0 e1), h3.trans (congrArg₂ (RefRun.G3 (F := Ideal)) e0 e1),
      h4.trans (congrArg₂ (RefRun.G4 (F := Ideal)) e0 e1), h5.trans (congrArg₂ (RefRun.G5 (F := Ideal)) e0 e1),
      h6.trans (congrArg₂ (RefRun.G6 (F := Ideal)) e0 e1), k0, k1⟩

/-- All the claims: the frames of the three programs, with and without the precondition; the idealized kernel's relation to the kernel;
    the equation with the reference. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof

end
